-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_CodeWords (m : (ℓ : Loc Cert.CodeWords.nD Cert.CodeWords.τ Cert.CodeWords.sig) → Buf (Elt Bits) ℓ) : Prop :=
  True

def Pre_CodeWordsIdeal (m : (ℓ : Loc Cert.CodeWordsIdeal.nD Cert.CodeWordsIdeal.τ Cert.CodeWordsIdeal.sig) → Buf (Elt Ideal) ℓ) : Prop :=
  True

def Pre_CodeWordsReferenceIdeal (m : (ℓ : Loc Cert.CodeWordsReferenceIdeal.nD Cert.CodeWordsReferenceIdeal.τ Cert.CodeWordsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_CodeWords [hCodeWords : Cert.CodeWords.Facts] : Prop :=
  ∀ (m : (ℓ : Loc Cert.CodeWords.nD Cert.CodeWords.τ Cert.CodeWords.sig) → Buf (Elt Bits) ℓ) (g : Dev Cert.CodeWords.nD → PrngReg), Pre_CodeWords m →
    θ_run (Cert.CodeWords.defs (F := Bits)) (onTc (τ := Cert.CodeWords.τ) (Cert.CodeWords.main (F := Bits))) ⟨m, fun _ => 0, g⟩ (fun r => (∀ c : Dev Cert.CodeWords.nD,
      r.2.mem ((c.tc : Thread Cert.CodeWords.nD Cert.CodeWords.τ).loc Cert.CodeWords.main_arg0) = m ((c.tc : Thread Cert.CodeWords.nD Cert.CodeWords.τ).loc Cert.CodeWords.main_arg0))
      ∧ r.2.sem = fun _ => 0)

def quiescent_CodeWordsIdeal [hCodeWordsIdeal : Cert.CodeWordsIdeal.Facts] : Prop :=
  ∀ (m : (ℓ : Loc Cert.CodeWordsIdeal.nD Cert.CodeWordsIdeal.τ Cert.CodeWordsIdeal.sig) → Buf (Elt Ideal) ℓ) (g : Dev Cert.CodeWordsIdeal.nD → PrngReg), Pre_CodeWordsIdeal m →
    θ_run (Cert.CodeWordsIdeal.defs (F := Ideal)) (onTc (τ := Cert.CodeWordsIdeal.τ) (Cert.CodeWordsIdeal.main (F := Ideal))) ⟨m, fun _ => 0, g⟩ (fun r => (∀ c : Dev Cert.CodeWordsIdeal.nD,
      r.2.mem ((c.tc : Thread Cert.CodeWordsIdeal.nD Cert.CodeWordsIdeal.τ).loc Cert.CodeWordsIdeal.main_arg0) = m ((c.tc : Thread Cert.CodeWordsIdeal.nD Cert.CodeWordsIdeal.τ).loc Cert.CodeWordsIdeal.main_arg0))
      ∧ r.2.sem = fun _ => 0)

def quiescent_CodeWordsReferenceIdeal [hCodeWordsReferenceIdeal : Cert.CodeWordsReferenceIdeal.Facts] : Prop :=
  ∀ (m : (ℓ : Loc Cert.CodeWordsReferenceIdeal.nD Cert.CodeWordsReferenceIdeal.τ Cert.CodeWordsReferenceIdeal.sig) → Buf (Elt Ideal) ℓ) (g : Dev Cert.CodeWordsReferenceIdeal.nD → PrngReg), Pre_CodeWordsReferenceIdeal m →
    θ_run (Cert.CodeWordsReferenceIdeal.defs (F := Ideal)) (onTc (τ := Cert.CodeWordsReferenceIdeal.τ) (Cert.CodeWordsReferenceIdeal.main (F := Ideal))) ⟨m, fun _ => 0, g⟩ (fun r => (∀ c : Dev Cert.CodeWordsReferenceIdeal.nD,
      r.2.mem ((c.tc : Thread Cert.CodeWordsReferenceIdeal.nD Cert.CodeWordsReferenceIdeal.τ).loc Cert.CodeWordsReferenceIdeal.main_arg0) = m ((c.tc : Thread Cert.CodeWordsReferenceIdeal.nD Cert.CodeWordsReferenceIdeal.τ).loc Cert.CodeWordsReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_CodeWords_CodeWordsIdeal : Prop :=
  True

def algebraic_CodeWordsIdeal_CodeWordsReferenceIdeal [hCodeWordsIdeal : Cert.CodeWordsIdeal.Facts] [hCodeWordsReferenceIdeal : Cert.CodeWordsReferenceIdeal.Facts] : Prop :=
  ∀ (m : (ℓ : Loc Cert.CodeWordsIdeal.nD Cert.CodeWordsIdeal.τ Cert.CodeWordsIdeal.sig) → Buf (Elt Ideal) ℓ) (g : Dev Cert.CodeWordsIdeal.nD → PrngReg)
    (m' : (ℓ : Loc Cert.CodeWordsReferenceIdeal.nD Cert.CodeWordsReferenceIdeal.τ Cert.CodeWordsReferenceIdeal.sig) → Buf (Elt Ideal) ℓ) (g' : Dev Cert.CodeWordsReferenceIdeal.nD → PrngReg), Pre_CodeWordsIdeal m →
    (∀ c : Dev Cert.CodeWordsIdeal.nD,
      m' ((c.tc : Thread Cert.CodeWordsReferenceIdeal.nD Cert.CodeWordsReferenceIdeal.τ).loc Cert.CodeWordsReferenceIdeal.main_arg0) = m ((c.tc : Thread Cert.CodeWordsIdeal.nD Cert.CodeWordsIdeal.τ).loc Cert.CodeWordsIdeal.main_arg0)) →
    ∃ (v0 : (c : Dev Cert.CodeWordsIdeal.nD) → Buf (Elt Ideal) ((c.tc : Thread Cert.CodeWordsIdeal.nD Cert.CodeWordsIdeal.τ).loc Cert.CodeWordsIdeal.main_v1)),
      θ_run (Cert.CodeWordsIdeal.defs (F := Ideal)) (onTc (τ := Cert.CodeWordsIdeal.τ) (Cert.CodeWordsIdeal.main (F := Ideal))) ⟨m, fun _ => 0, g⟩ (fun r => ∀ c : Dev Cert.CodeWordsIdeal.nD,
          r.2.mem ((c.tc : Thread Cert.CodeWordsIdeal.nD Cert.CodeWordsIdeal.τ).loc Cert.CodeWordsIdeal.main_v1) = v0 c
          ∧ r.2.mem ((c.tc : Thread Cert.CodeWordsIdeal.nD Cert.CodeWordsIdeal.τ).loc Cert.CodeWordsIdeal.main_arg0) = m ((c.tc : Thread Cert.CodeWordsIdeal.nD Cert.CodeWordsIdeal.τ).loc Cert.CodeWordsIdeal.main_arg0))
      ∧ θ_run (Cert.CodeWordsReferenceIdeal.defs (F := Ideal)) (onTc (τ := Cert.CodeWordsReferenceIdeal.τ) (Cert.CodeWordsReferenceIdeal.main (F := Ideal))) ⟨m', fun _ => 0, g'⟩ (fun r => ∀ c : Dev Cert.CodeWordsReferenceIdeal.nD,
          r.2.mem ((c.tc : Thread Cert.CodeWordsReferenceIdeal.nD Cert.CodeWordsReferenceIdeal.τ).loc Cert.CodeWordsReferenceIdeal.main_v20) = v0 c
          ∧ r.2.mem ((c.tc : Thread Cert.CodeWordsReferenceIdeal.nD Cert.CodeWordsReferenceIdeal.τ).loc Cert.CodeWordsReferenceIdeal.main_arg0) = m' ((c.tc : Thread Cert.CodeWordsReferenceIdeal.nD Cert.CodeWordsReferenceIdeal.τ).loc Cert.CodeWordsReferenceIdeal.main_arg0))

def Claim : Prop :=
  ∃ (hKernel : Cert.Kernel.Facts) (hKernelIdeal : Cert.KernelIdeal.Facts) (hReferenceIdeal : Cert.ReferenceIdeal.Facts) (hCodeWords : Cert.CodeWords.Facts) (hCodeWordsIdeal : Cert.CodeWordsIdeal.Facts) (hCodeWordsReferenceIdeal : Cert.CodeWordsReferenceIdeal.Facts),
    quiescent_Kernel (hKernel := hKernel)
    ∧ quiescent_KernelIdeal (hKernelIdeal := hKernelIdeal)
    ∧ quiescent_ReferenceIdeal (hReferenceIdeal := hReferenceIdeal)
    ∧ quiescent_CodeWords (hCodeWords := hCodeWords)
    ∧ quiescent_CodeWordsIdeal (hCodeWordsIdeal := hCodeWordsIdeal)
    ∧ quiescent_CodeWordsReferenceIdeal (hCodeWordsReferenceIdeal := hCodeWordsReferenceIdeal)
    ∧ preserves_Kernel_KernelIdeal
    ∧ algebraic_KernelIdeal_ReferenceIdeal (hKernelIdeal := hKernelIdeal) (hReferenceIdeal := hReferenceIdeal)
    ∧ preserves_CodeWords_CodeWordsIdeal
    ∧ algebraic_CodeWordsIdeal_CodeWordsReferenceIdeal (hCodeWordsIdeal := hCodeWordsIdeal) (hCodeWordsReferenceIdeal := hCodeWordsReferenceIdeal)
-- ==== Kernel.lean ====
abbrev S262144x96 : Shape := ⟨2, ![262144, 96]⟩
abbrev S64x2x128x128 : Shape := ⟨4, ![64, 2, 128, 128]⟩
abbrev S32x2x128x128 : Shape := ⟨4, ![32, 2, 128, 128]⟩
abbrev S256 : Shape := ⟨1, ![256]⟩
abbrev S96x262144 : Shape := ⟨2, ![96, 262144]⟩
abbrev S2x128 : Shape := ⟨2, ![2, 128]⟩
abbrev S96x256 : Shape := ⟨2, ![96, 256]⟩
abbrev S2x2x128x128 : Shape := ⟨4, ![2, 2, 128, 128]⟩
abbrev S1x2x128x128 : Shape := ⟨4, ![1, 2, 128, 128]⟩
abbrev S96x8192 : Shape := ⟨2, ![96, 8192]⟩
abbrev S3x2x2x128x128 : Shape := ⟨5, ![3, 2, 2, 128, 128]⟩
abbrev S1x1x128x128 : Shape := ⟨4, ![1, 1, 128, 128]⟩
abbrev S128x128 : Shape := ⟨2, ![128, 128]⟩
abbrev S1x1x1x128x128 : Shape := ⟨5, ![1, 1, 1, 128, 128]⟩
abbrev S16x128 : Shape := ⟨2, ![16, 128]⟩
abbrev S1x1x1x16x128 : Shape := ⟨5, ![1, 1, 1, 16, 128]⟩
abbrev S1x1x1x8x128 : Shape := ⟨5, ![1, 1, 1, 8, 128]⟩
abbrev S8x128 : Shape := ⟨2, ![8, 128]⟩
abbrev S256x128 : Shape := ⟨2, ![256, 128]⟩
abbrev S256x256 : Shape := ⟨2, ![256, 256]⟩
abbrev S1x128 : Shape := ⟨2, ![1, 128]⟩
abbrev S1x256 : Shape := ⟨2, ![1, 256]⟩

abbrev nBuf : Space → Nat
  | .hbm => 7
  | .vmem => 10
  | .smem => 0
  | _ => 0

abbrev bufTy : (tb : Table) → Fin (tcTables nBuf tb) → BufTy
  | .hbm, ⟨0, _⟩ => ⟨S262144x96, .bf16⟩
  | .hbm, ⟨1, _⟩ => ⟨S64x2x128x128, .i32⟩
  | .hbm, ⟨2, _⟩ => ⟨S32x2x128x128, .i32⟩
  | .hbm, ⟨3, _⟩ => ⟨S256, .i32⟩
  | .hbm, ⟨4, _⟩ => ⟨S96x262144, .bf16⟩
  | .hbm, ⟨5, _⟩ => ⟨S2x128, .i32⟩
  | .hbm, ⟨6, _⟩ => ⟨S96x256, .bf16⟩
  | .local _ .vmem, ⟨0, _⟩ => ⟨S2x2x128x128, .i32⟩
  | .local _ .vmem, ⟨1, _⟩ => ⟨S2x2x128x128, .i32⟩
  | .local _ .vmem, ⟨2, _⟩ => ⟨S1x2x128x128, .i32⟩
  | .local _ .vmem, ⟨3, _⟩ => ⟨S1x2x128x128, .i32⟩
  | .local _ .vmem, ⟨4, _⟩ => ⟨S96x8192, .bf16⟩
  | .local _ .vmem, ⟨5, _⟩ => ⟨S96x8192, .bf16⟩
  | .local _ .vmem, ⟨6, _⟩ => ⟨S2x128, .i32⟩
  | .local _ .vmem, ⟨7, _⟩ => ⟨S96x256, .bf16⟩
  | .local _ .vmem, ⟨8, _⟩ => ⟨S3x2x2x128x128, .i32⟩
  | .local _ .vmem, ⟨9, _⟩ => ⟨S96x256, .f32⟩
  | _, _ => ⟨S262144x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v9778 : BitVec 1 := Scalar.cmpi .eq arg0 c31_i32
  let v9779 : BitVec 32 := Scalar.extui v9778
  let c0_i32_7707 : BitVec 32 := 0#32
  let v9780 : BitVec 1 := Scalar.cmpi .ne v9779 c0_i32_7707
  v9780

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x2x128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S262144x96 : Shape := ⟨2, ![262144, 96]⟩
abbrev S64x2x128x128 : Shape := ⟨4, ![64, 2, 128, 128]⟩
abbrev S32x2x128x128 : Shape := ⟨4, ![32, 2, 128, 128]⟩
abbrev S256 : Shape := ⟨1, ![256]⟩
abbrev S2x2x64 : Shape := ⟨3, ![2, 2, 64]⟩
abbrev S2x1x64 : Shape := ⟨3, ![2, 1, 64]⟩
abbrev S2x64 : Shape := ⟨2, ![2, 64]⟩
abbrev S128 : Shape := ⟨1, ![128]⟩
abbrev S2x64x128x128 : Shape := ⟨4, ![2, 64, 128, 128]⟩
abbrev S2x8192x128 : Shape := ⟨3, ![2, 8192, 128]⟩
abbrev S_ : Shape := ⟨0, ![]⟩
abbrev S8192 : Shape := ⟨1, ![8192]⟩
abbrev S1x8192x1 : Shape := ⟨3, ![1, 8192, 1]⟩
abbrev S8192x128 : Shape := ⟨2, ![8192, 128]⟩
abbrev S1x8192x128 : Shape := ⟨3, ![1, 8192, 128]⟩
abbrev S2097152 : Shape := ⟨1, ![2097152]⟩
abbrev S2x32x128x128 : Shape := ⟨4, ![2, 32, 128, 128]⟩
abbrev S2x4096x128 : Shape := ⟨3, ![2, 4096, 128]⟩
abbrev S4096 : Shape := ⟨1, ![4096]⟩
abbrev S1x4096x1 : Shape := ⟨3, ![1, 4096, 1]⟩
abbrev S4096x128 : Shape := ⟨2, ![4096, 128]⟩
abbrev S1x4096x128 : Shape := ⟨3, ![1, 4096, 128]⟩
abbrev S1048576 : Shape := ⟨1, ![1048576]⟩
abbrev S3145728 : Shape := ⟨1, ![3145728]⟩
abbrev S3145728x1 : Shape := ⟨2, ![3145728, 1]⟩
abbrev S3145728x96 : Shape := ⟨2, ![3145728, 96]⟩
abbrev S256x96 : Shape := ⟨2, ![256, 96]⟩
abbrev S96x256 : Shape := ⟨2, ![96, 256]⟩

abbrev nBuf : Space → Nat
  | .hbm => 170
  | .vmem => 0
  | .smem => 0
  | _ => 0

abbrev hbmTy0_0 (i : Nat) : BufTy := match i % 128 with
  | 0 => ⟨S262144x96, .bf16⟩
  | 1 => ⟨S64x2x128x128, .i32⟩
  | 2 => ⟨S32x2x128x128, .i32⟩
  | 3 => ⟨S256, .i32⟩
  | 4 => ⟨S2x2x64, .i32⟩
  | 5 => ⟨S2x1x64, .i32⟩
  | 6 => ⟨S2x64, .i32⟩
  | 7 => ⟨S128, .i32⟩
  | 8 => ⟨S2x64x128x128, .i32⟩
  | 9 => ⟨S2x8192x128, .i32⟩
  | 10 => ⟨S_, .i32⟩
  | 11 => ⟨S2x8192x128, .i32⟩
  | 12 => ⟨S2x8192x128, .i32⟩
  | 13 => ⟨S8192, .i32⟩
  | 14 => ⟨S_, .i32⟩
  | 15 => ⟨S8192, .i32⟩
  | 16 => ⟨S8192, .i32⟩
  | 17 => ⟨S1x8192x1, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S1x8192x1, .i32⟩
  | 25 => ⟨S1x8192x1, .i32⟩
  | 26 => ⟨S_, .i32⟩
  | 27 => ⟨S1x8192x1, .i32⟩
  | 28 => ⟨S1x8192x1, .i1⟩
  | 29 => ⟨S_, .i32⟩
  | 30 => ⟨S1x8192x1, .i32⟩
  | 31 => ⟨S1x8192x1, .i1⟩
  | 32 => ⟨S_, .i32⟩
  | 33 => ⟨S_, .i1⟩
  | 34 => ⟨S1x8192x1, .i1⟩
  | 35 => ⟨S1x8192x1, .i1⟩
  | 36 => ⟨S1x8192x1, .i1⟩
  | 37 => ⟨S1x8192x1, .i32⟩
  | 38 => ⟨S1x8192x1, .i32⟩
  | 39 => ⟨S1x8192x1, .i32⟩
  | 40 => ⟨S2x8192x128, .i32⟩
  | 41 => ⟨S2x8192x128, .i32⟩
  | 42 => ⟨S_, .i32⟩
  | 43 => ⟨S2x8192x128, .i32⟩
  | 44 => ⟨S2x8192x128, .i1⟩
  | 45 => ⟨S_, .i32⟩
  | 46 => ⟨S2x8192x128, .i32⟩
  | 47 => ⟨S2x8192x128, .i1⟩
  | 48 => ⟨S2x8192x128, .i1⟩
  | 49 => ⟨S_, .i1⟩
  | 50 => ⟨S8192x128, .i1⟩
  | 51 => ⟨S1x8192x128, .i32⟩
  | 52 => ⟨S8192x128, .i32⟩
  | 53 => ⟨S1x8192x128, .i32⟩
  | 54 => ⟨S8192x128, .i32⟩
  | 55 => ⟨S8192x128, .i1⟩
  | 56 => ⟨S1x8192x128, .i1⟩
  | 57 => ⟨S1x8192x128, .i1⟩
  | 58 => ⟨S2x8192x128, .i1⟩
  | 59 => ⟨S2x8192x128, .i1⟩
  | 60 => ⟨S2x8192x128, .i32⟩
  | 61 => ⟨S2x8192x128, .i32⟩
  | 62 => ⟨S_, .i32⟩
  | 63 => ⟨S_, .i32⟩
  | 64 => ⟨S2x8192x128, .i32⟩
  | 65 => ⟨S2x8192x128, .i32⟩
  | 66 => ⟨S2x8192x128, .f32⟩
  | 67 => ⟨S_, .f32⟩
  | 68 => ⟨S_, .f32⟩
  | 69 => ⟨S2x8192x128, .f32⟩
  | 70 => ⟨S2x8192x128, .f32⟩
  | 71 => ⟨S2x8192x128, .bf16⟩
  | 72 => ⟨S2x8192x128, .i32⟩
  | 73 => ⟨S2097152, .i32⟩
  | 74 => ⟨S2097152, .bf16⟩
  | 75 => ⟨S2097152, .i32⟩
  | 76 => ⟨S2x1x64, .i32⟩
  | 77 => ⟨S2x64, .i32⟩
  | 78 => ⟨S128, .i32⟩
  | 79 => ⟨S2x32x128x128, .i32⟩
  | 80 => ⟨S2x4096x128, .i32⟩
  | 81 => ⟨S_, .i32⟩
  | 82 => ⟨S2x4096x128, .i32⟩
  | 83 => ⟨S2x4096x128, .i32⟩
  | 84 => ⟨S4096, .i32⟩
  | 85 => ⟨S_, .i32⟩
  | 86 => ⟨S4096, .i32⟩
  | 87 => ⟨S4096, .i32⟩
  | 88 => ⟨S1x4096x1, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S1x4096x1, .i32⟩
  | 96 => ⟨S1x4096x1, .i32⟩
  | 97 => ⟨S_, .i32⟩
  | 98 => ⟨S1x4096x1, .i32⟩
  | 99 => ⟨S1x4096x1, .i1⟩
  | 100 => ⟨S_, .i32⟩
  | 101 => ⟨S1x4096x1, .i32⟩
  | 102 => ⟨S1x4096x1, .i1⟩
  | 103 => ⟨S_, .i32⟩
  | 104 => ⟨S_, .i1⟩
  | 105 => ⟨S1x4096x1, .i1⟩
  | 106 => ⟨S1x4096x1, .i1⟩
  | 107 => ⟨S1x4096x1, .i1⟩
  | 108 => ⟨S1x4096x1, .i32⟩
  | 109 => ⟨S1x4096x1, .i32⟩
  | 110 => ⟨S1x4096x1, .i32⟩
  | 111 => ⟨S2x4096x128, .i32⟩
  | 112 => ⟨S2x4096x128, .i32⟩
  | 113 => ⟨S_, .i32⟩
  | 114 => ⟨S2x4096x128, .i32⟩
  | 115 => ⟨S2x4096x128, .i1⟩
  | 116 => ⟨S_, .i32⟩
  | 117 => ⟨S2x4096x128, .i32⟩
  | 118 => ⟨S2x4096x128, .i1⟩
  | 119 => ⟨S2x4096x128, .i1⟩
  | 120 => ⟨S_, .i1⟩
  | 121 => ⟨S4096x128, .i1⟩
  | 122 => ⟨S1x4096x128, .i32⟩
  | 123 => ⟨S4096x128, .i32⟩
  | 124 => ⟨S1x4096x128, .i32⟩
  | 125 => ⟨S4096x128, .i32⟩
  | 126 => ⟨S4096x128, .i1⟩
  | 127 => ⟨S1x4096x128, .i1⟩
  | _ => ⟨S262144x96, .bf16⟩

abbrev hbmTy0_1 (i : Nat) : BufTy := match i % 128 with
  | 0 => ⟨S1x4096x128, .i1⟩
  | 1 => ⟨S2x4096x128, .i1⟩
  | 2 => ⟨S2x4096x128, .i1⟩
  | 3 => ⟨S2x4096x128, .i32⟩
  | 4 => ⟨S2x4096x128, .i32⟩
  | 5 => ⟨S_, .i32⟩
  | 6 => ⟨S_, .i32⟩
  | 7 => ⟨S2x4096x128, .i32⟩
  | 8 => ⟨S2x4096x128, .i32⟩
  | 9 => ⟨S2x4096x128, .f32⟩
  | 10 => ⟨S_, .f32⟩
  | 11 => ⟨S_, .f32⟩
  | 12 => ⟨S2x4096x128, .f32⟩
  | 13 => ⟨S2x4096x128, .f32⟩
  | 14 => ⟨S2x4096x128, .bf16⟩
  | 15 => ⟨S2x4096x128, .i32⟩
  | 16 => ⟨S1048576, .i32⟩
  | 17 => ⟨S1048576, .bf16⟩
  | 18 => ⟨S1048576, .i32⟩
  | 19 => ⟨S3145728, .i32⟩
  | 20 => ⟨S3145728, .bf16⟩
  | 21 => ⟨S3145728, .i32⟩
  | 22 => ⟨S_, .i32⟩
  | 23 => ⟨S3145728, .i32⟩
  | 24 => ⟨S3145728, .i1⟩
  | 25 => ⟨S_, .i32⟩
  | 26 => ⟨S3145728, .i32⟩
  | 27 => ⟨S3145728, .i32⟩
  | 28 => ⟨S3145728, .i32⟩
  | 29 => ⟨S3145728x1, .i32⟩
  | 30 => ⟨S3145728x96, .bf16⟩
  | 31 => ⟨S3145728x96, .f32⟩
  | 32 => ⟨S3145728, .f32⟩
  | 33 => ⟨S3145728x1, .f32⟩
  | 34 => ⟨S3145728x96, .f32⟩
  | 35 => ⟨S3145728x96, .f32⟩
  | 36 => ⟨S_, .f32⟩
  | 37 => ⟨S256x96, .f32⟩
  | 38 => ⟨S3145728x1, .i32⟩
  | 39 => ⟨S256x96, .f32⟩
  | 40 => ⟨S256x96, .bf16⟩
  | 41 => ⟨S96x256, .bf16⟩
  | _ => ⟨S262144x96, .bf16⟩

abbrev hbmTy (i : Nat) : BufTy := match i / 128 with
  | 0 => hbmTy0_0 i
  | 1 => hbmTy0_1 i
  | _ => ⟨S262144x96, .bf16⟩

abbrev bufTy : (tb : Table) → Fin (tcTables nBuf tb) → BufTy
  | .hbm, ⟨i, _⟩ => hbmTy i
  | _, _ => ⟨S262144x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_2 : Ref sig .tc := ⟨.hbm, 42, rfl⟩
abbrev main_v15 : Ref sig .tc := ⟨.hbm, 43, rfl⟩
abbrev main_v16 : Ref sig .tc := ⟨.hbm, 44, rfl⟩
abbrev main_c_3 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_5 : Ref sig .tc := ⟨.hbm, 62, rfl⟩
abbrev main_call1_v0 : Ref sig .tc := ⟨.hbm, 63, rfl⟩
abbrev main_call1_v1 : Ref sig .tc := ⟨.hbm, 64, rfl⟩
abbrev main_v32 : Ref sig .tc := ⟨.hbm, 65, rfl⟩
abbrev main_v33 : Ref sig .tc := ⟨.hbm, 66, rfl⟩
abbrev main_cst : Ref sig .tc := ⟨.hbm, 67, rfl⟩
abbrev main_call2_v0 : Ref sig .tc := ⟨.hbm, 68, rfl⟩
abbrev main_call2_v1 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_c_6 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_c_7 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_8 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_1 : Ref sig .tc := ⟨.hbm, 97, rfl⟩
abbrev main_call3_v5 : Ref sig .tc := ⟨.hbm, 98, rfl⟩
abbrev main_call3_v6 : Ref sig .tc := ⟨.hbm, 99, rfl⟩
abbrev main_call3_c_2 : Ref sig .tc := ⟨.hbm, 100, rfl⟩
abbrev main_call3_v7 : Ref sig .tc := ⟨.hbm, 101, rfl⟩
abbrev main_call3_v8 : Ref sig .tc := ⟨.hbm, 102, rfl⟩
abbrev main_call3_c_3 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_c_9 : Ref sig .tc := ⟨.hbm, 113, rfl⟩
abbrev main_v54 : Ref sig .tc := ⟨.hbm, 114, rfl⟩
abbrev main_v55 : Ref sig .tc := ⟨.hbm, 115, rfl⟩
abbrev main_c_10 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_c_11 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_c_12 : Ref sig .tc := ⟨.hbm, 133, rfl⟩
abbrev main_call4_v0 : Ref sig .tc := ⟨.hbm, 134, rfl⟩
abbrev main_call4_v1 : Ref sig .tc := ⟨.hbm, 135, rfl⟩
abbrev main_v71 : Ref sig .tc := ⟨.hbm, 136, rfl⟩
abbrev main_v72 : Ref sig .tc := ⟨.hbm, 137, rfl⟩
abbrev main_cst_13 : Ref sig .tc := ⟨.hbm, 138, rfl⟩
abbrev main_call5_v0 : Ref sig .tc := ⟨.hbm, 139, rfl⟩
abbrev main_call5_v1 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_c_14 : Ref sig .tc := ⟨.hbm, 150, rfl⟩
abbrev main_v82 : Ref sig .tc := ⟨.hbm, 151, rfl⟩
abbrev main_v83 : Ref sig .tc := ⟨.hbm, 152, rfl⟩
abbrev main_c_15 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_cst_16 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩

abbrev nD : Nat := 1
abbrev τ : Topo := Topo.v7x

variable {F : FTy → Type} [FloatOps F]
-- ==== CodeWords.lean ====
abbrev S524288 : Shape := ⟨1, ![524288]⟩
abbrev S4096x128 : Shape := ⟨2, ![4096, 128]⟩
abbrev S1024x128 : Shape := ⟨2, ![1024, 128]⟩

abbrev nBuf : Space → Nat
  | .hbm => 3
  | .vmem => 2
  | .smem => 0
  | _ => 0

abbrev bufTy : (tb : Table) → Fin (tcTables nBuf tb) → BufTy
  | .hbm, ⟨0, _⟩ => ⟨S524288, .i8⟩
  | .hbm, ⟨1, _⟩ => ⟨S4096x128, .i8⟩
  | .hbm, ⟨2, _⟩ => ⟨S1024x128, .i32⟩
  | .local _ .vmem, ⟨0, _⟩ => ⟨S4096x128, .i8⟩
  | .local _ .vmem, ⟨1, _⟩ => ⟨S1024x128, .i32⟩
  | _, _ => ⟨S524288, .i8⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== CodeWordsReferenceIdeal.lean ====
abbrev S524288 : Shape := ⟨1, ![524288]⟩
abbrev S1024x4x128 : Shape := ⟨3, ![1024, 4, 128]⟩
abbrev S_ : Shape := ⟨0, ![]⟩
abbrev S1024x1x128 : Shape := ⟨3, ![1024, 1, 128]⟩
abbrev S1024x128 : Shape := ⟨2, ![1024, 128]⟩

abbrev nBuf : Space → Nat
  | .hbm => 26
  | .vmem => 0
  | .smem => 0
  | _ => 0

abbrev bufTy : (tb : Table) → Fin (tcTables nBuf tb) → BufTy
  | .hbm, ⟨0, _⟩ => ⟨S524288, .i8⟩
  | .hbm, ⟨1, _⟩ => ⟨S1024x4x128, .i8⟩
  | .hbm, ⟨2, _⟩ => ⟨S1024x4x128, .i32⟩
  | .hbm, ⟨3, _⟩ => ⟨S_, .i32⟩
  | .hbm, ⟨4, _⟩ => ⟨S1024x4x128, .i32⟩
  | .hbm, ⟨5, _⟩ => ⟨S1024x4x128, .i32⟩
  | .hbm, ⟨6, _⟩ => ⟨S1024x1x128, .i32⟩
  | .hbm, ⟨7, _⟩ => ⟨S1024x128, .i32⟩
  | .hbm, ⟨8, _⟩ => ⟨S1024x1x128, .i32⟩
  | .hbm, ⟨9, _⟩ => ⟨S1024x128, .i32⟩
  | .hbm, ⟨10, _⟩ => ⟨S_, .i32⟩
  | .hbm, ⟨11, _⟩ => ⟨S1024x128, .i32⟩
  | .hbm, ⟨12, _⟩ => ⟨S1024x128, .i32⟩
  | .hbm, ⟨13, _⟩ => ⟨S1024x128, .i32⟩
  | .hbm, ⟨14, _⟩ => ⟨S1024x1x128, .i32⟩
  | .hbm, ⟨15, _⟩ => ⟨S1024x128, .i32⟩
  | .hbm, ⟨16, _⟩ => ⟨S_, .i32⟩
  | .hbm, ⟨17, _⟩ => ⟨S1024x128, .i32⟩
  | .hbm, ⟨18, _⟩ => ⟨S1024x128, .i32⟩
  | .hbm, ⟨19, _⟩ => ⟨S1024x128, .i32⟩
  | .hbm, ⟨20, _⟩ => ⟨S1024x1x128, .i32⟩
  | .hbm, ⟨21, _⟩ => ⟨S1024x128, .i32⟩
  | .hbm, ⟨22, _⟩ => ⟨S_, .i32⟩
  | .hbm, ⟨23, _⟩ => ⟨S1024x128, .i32⟩
  | .hbm, ⟨24, _⟩ => ⟨S1024x128, .i32⟩
  | .hbm, ⟨25, _⟩ => ⟨S1024x128, .i32⟩
  | _, _ => ⟨S524288, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Proof.Rolled.lean ====
/-
  The kernel's body, written with its repetitions as recursions: a generic program over any signature, any labels and
  any float type. The printed programs' bodies are shown equal to it in the modules that import this one, so that the
  proofs about the body can go by induction instead of statement by statement.
-/
module

public import Idealize.ShloMosaic.Lib.Pipeline
public import Idealize.ShloMosaic.Lib.Sig
public import Idealize.ShloMosaic.PureOps

@[expose] public section

noncomputable section

namespace Cert.Proof.Rolled

open Idealize.ShloMosaic Idealize.SL.Sem

abbrev S2x2x128x128 : Shape := ⟨4, ![2, 2, 128, 128]⟩
abbrev S1x2x128x128 : Shape := ⟨4, ![1, 2, 128, 128]⟩
abbrev S96x8192 : Shape := ⟨2, ![96, 8192]⟩
abbrev S2x128 : Shape := ⟨2, ![2, 128]⟩
abbrev S96x256 : Shape := ⟨2, ![96, 256]⟩
abbrev S3x2x2x128x128 : Shape := ⟨5, ![3, 2, 2, 128, 128]⟩
abbrev S1x1x128x128 : Shape := ⟨4, ![1, 1, 128, 128]⟩
abbrev S128x128 : Shape := ⟨2, ![128, 128]⟩
abbrev S1x1x1x128x128 : Shape := ⟨5, ![1, 1, 1, 128, 128]⟩
abbrev S16x128 : Shape := ⟨2, ![16, 128]⟩
abbrev S1x1x1x16x128 : Shape := ⟨5, ![1, 1, 1, 16, 128]⟩
abbrev S1x1x1x8x128 : Shape := ⟨5, ![1, 1, 1, 8, 128]⟩
abbrev S8x128 : Shape := ⟨2, ![8, 128]⟩
abbrev S256x128 : Shape := ⟨2, ![256, 128]⟩
abbrev S256x256 : Shape := ⟨2, ![256, 256]⟩
abbrev S1x128 : Shape := ⟨2, ![1, 128]⟩
abbrev S1x256 : Shape := ⟨2, ![1, 256]⟩

/-! ## The pure steps -/

section Pure
variable {F : FTy → Type} [FloatOps F]

/-- One packed table, transposed so that its groups are rows. -/
def wordT (v : IVec S1x1x128x128 32) : IVec S128x128 32 :=
  transpose (s := S128x128) S128x128 [1, 0] (shapeCast (s := S1x1x128x128) S128x128 v (by decide)) (by decide)

/-- The transposed table as stored for the weights. -/
def wordW (v : IVec S1x1x128x128 32) : IVec S1x1x1x128x128 32 :=
  shapeCast (s := S128x128) S1x1x1x128x128 (wordT v) (by decide)

/-- The transposed table as stored for the columns: each word's low half twice. -/
def wordD (v : IVec S1x1x128x128 32) : IVec S1x1x1x128x128 32 :=
  shapeCast (s := S128x128) S1x1x1x128x128 (packElementwiseI16 (wordT v) (wordT v)) (by decide)

/-- Sixteen loaded words read as f32 and rounded to bf16: a slot's weights. -/
def wOf (v : IVec S1x1x1x16x128 32) : FVec F S16x128 .bf16 :=
  truncf .bf16 (bitcastToFloat .f32 (shapeCast (s := S1x1x1x16x128) S16x128 v (by decide))) (by decide)

/-- Eight loaded words read as sixteen half words: a slot's columns. -/
def dOf (v : IVec S1x1x1x8x128 32) : IVec S16x128 16 :=
  bitcast (s := S8x128) S16x128 16 (shapeCast (s := S1x1x1x8x128) S8x128 v (by decide)) (by decide)

/-- The column numbers `base, …, base + 15` down the rows. -/
def cols (base : BitVec 16) : IVec S16x128 16 :=
  addi (iota .tc S16x128 16 [0] (by decide)) (broadcast S16x128 base)

/-- The zero tile. -/
def zeroPiece : FVec F S16x128 .bf16 := broadcast S16x128 (Scalar.ofBits .bf16 0x0000#16)

/-- Sixteen columns of a group expanded: the first slot's weight where its column matches, else the second's, else zero. -/
def piece (it d0 d1 : IVec S16x128 16) (w0 w1 : FVec F S16x128 .bf16) : FVec F S16x128 .bf16 :=
  select (cmpi .eq it d0) w0 (select (cmpi .eq it d1) w1 zeroPiece)

/-- The bases of a group's column numbers: a dense group has 32 columns, sixteen at a time. -/
def denseBase (g : Nat) : Nat → BitVec 16
  | 0 => BitVec.ofNat 16 (32 * (g % 2))
  | _ => BitVec.ofNat 16 (32 * (g % 2) + 16)

/-- A dense group's two pieces. -/
def densePieces (g : Nat) (v0 v1 : IVec S1x1x1x16x128 32) (u0 u1 : IVec S1x1x1x8x128 32) : List (FVec F S16x128 .bf16) :=
  [piece (cols (denseBase g 0)) (dOf u0) (dOf u1) (wOf v0) (wOf v1),
   piece (cols (denseBase g 1)) (dOf u0) (dOf u1) (wOf v0) (wOf v1)]

/-- A sparse group's four pieces. -/
def sparsePieces (v0 v1 : IVec S1x1x1x16x128 32) (u0 u1 : IVec S1x1x1x8x128 32) : List (FVec F S16x128 .bf16) :=
  [piece (cols 0#16) (dOf u0) (dOf u1) (wOf v0) (wOf v1),
   piece (cols 16#16) (dOf u0) (dOf u1) (wOf v0) (wOf v1),
   piece (cols 32#16) (dOf u0) (dOf u1) (wOf v0) (wOf v1),
   piece (cols 48#16) (dOf u0) (dOf u1) (wOf v0) (wOf v1)]

/-- Sixteen pieces stacked. -/
def stack : List (FVec F S16x128 .bf16) → FVec F S256x128 .bf16
  | [a, b, c, d, e, f, g, h, i, j, k, l, m, n, o, p] =>
    concatenate S256x128 0 [⟨S16x128, a⟩, ⟨S16x128, b⟩, ⟨S16x128, c⟩, ⟨S16x128, d⟩, ⟨S16x128, e⟩, ⟨S16x128, f⟩, ⟨S16x128, g⟩,
      ⟨S16x128, h⟩, ⟨S16x128, i⟩, ⟨S16x128, j⟩, ⟨S16x128, k⟩, ⟨S16x128, l⟩, ⟨S16x128, m⟩, ⟨S16x128, n⟩, ⟨S16x128, o⟩, ⟨S16x128, p⟩]
      (by simp only [List.map_cons, List.map_nil]; decide)
  | _ => fun _ => FloatOps.ofBits .bf16 0#16

/-- The contraction of a tile of `x` with the expanded tile. -/
def dotTile : DotDims S96x256 S256x256 S96x256 where
  lhsContracting := [1]
  rhsContracting := [0]
  lhsNonContracting := [0]
  rhsNonContracting := [1]
  lhsBatch := []
  rhsBatch := []
  wf := by decide

/-- The contraction with the permutation's one-hot matrix. -/
def dotPerm : DotDims S96x256 S256x256 S96x256 where
  lhsContracting := [1]
  rhsContracting := [1]
  lhsNonContracting := [0]
  rhsNonContracting := [0]
  lhsBatch := []
  rhsBatch := []
  wf := by decide

/-- One tile's product from its two halves and its tile of `x`. -/
def tileProd (ds ss : List (FVec F S16x128 .bf16)) (x : FVec F S96x256 .bf16) : FVec F S96x256 .f32 :=
  matmul dotTile none (shapeCast (s := S96x256) S96x256 x (by decide))
    (concatenate S256x256 1 [⟨S256x128, stack ds⟩, ⟨S256x128, stack ss⟩] (by simp only [List.map_cons, List.map_nil]; decide))
    (constant S96x256 .f32 0x00000000#32)

/-- The zero accumulator. -/
def zeroAcc : FVec F S96x256 .f32 := broadcast S96x256 (Scalar.ofBits .f32 0x00000000#32)

/-- The output row of each of the 256 lanes. -/
def laneRows (p0 p1 : IVec S1x128 32) : IVec S1x256 32 :=
  concatenate S1x256 1
    [⟨S1x128, select (cmpi .slt (iota .tc S1x128 32 [1] (by decide)) (broadcast S1x128 64#32)) (shapeCast (s := S1x128) S1x128 p0 (by decide))
        (dynamicRotate (s := S1x128) 1 64#32 none (shapeCast (s := S1x128) S1x128 p1 (by decide)) (by decide))⟩,
     ⟨S1x128, select (cmpi .slt (iota .tc S1x128 32 [1] (by decide)) (broadcast S1x128 64#32))
        (dynamicRotate (s := S1x128) 1 64#32 none (shapeCast (s := S1x128) S1x128 p0 (by decide)) (by decide)) (shapeCast (s := S1x128) S1x128 p1 (by decide))⟩]
    (by simp only [List.map_cons, List.map_nil]; decide)

/-- The written output: the accumulator times the one-hot matrix of the lanes' rows. -/
def outOf (acc : FVec F S96x256 .f32) (p0 p1 : IVec S1x128 32) : FVec F S96x256 .bf16 :=
  truncf .bf16
    (matmul dotPerm none (truncf .bf16 acc (by decide))
      (truncf .bf16 (sitofp .f32 (extui 32 (cmpi .eq (iota .tc S256x256 32 [0] (by decide))
        (broadcastTo (s := S1x256) S256x256 (laneRows p0 p1) (by decide))) (by decide))) (by decide))
      (constant S96x256 .f32 0x00000000#32)) (by decide)

end Pure

/-! ## The rectangles -/

theorem numel_S96x256 : 0 < S96x256.numel := by decide
theorem numel_S1x1x128x128 : 0 < S1x1x128x128.numel := by decide
theorem numel_S1x1x1x128x128 : 0 < S1x1x1x128x128.numel := by decide
theorem numel_S1x1x1x16x128 : 0 < S1x1x1x16x128.numel := by decide
theorem numel_S1x1x1x8x128 : 0 < S1x1x1x8x128.numel := by decide
theorem numel_S1x128 : 0 < S1x128.numel := by decide

/-- The accumulator (and the output's block), whole. -/
abbrev accR : Rect S96x256 := Rect.unit (s := S96x256) ![0, 0] S96x256.size (by decide)

/-- Slot `s` of block `b` of the dense table's two staged blocks. -/
abbrev denR (b s : Fin 2) : Rect S2x2x128x128 :=
  Rect.unit (s := S2x2x128x128) ![b.val, s.val, 0, 0] S1x1x128x128.size (by revert b s; decide)

/-- Slot `s` of the sparse table's staged block. -/
abbrev spaR (s : Fin 2) : Rect S1x2x128x128 :=
  Rect.unit (s := S1x2x128x128) ![0, s.val, 0, 0] S1x1x128x128.size (by revert s; decide)

/-- Half `f` of slot `s` of block `b` of the word buffer. -/
abbrev wordR (b : Fin 3) (s f : Fin 2) : Rect S3x2x2x128x128 :=
  Rect.unit (s := S3x2x2x128x128) ![b.val, s.val, f.val, 0, 0] S1x1x1x128x128.size (by revert b s f; decide)

theorem rowW_inb (b : Fin 3) (s : Fin 2) (g : Fin 128) : ∀ a, S1x1x1x16x128.size a = 0 ∨
    (![b.val, s.val, 0, g.val, 0] : Fin 5 → Nat) a + (![1, 1, 1, 0, 1] : Fin 5 → Nat) a * (S1x1x1x16x128.size a - 1)
      < S3x2x2x128x128.size a := by
  intro a; right; fin_cases a <;> simp <;> omega

theorem rowD_inb (b : Fin 3) (s : Fin 2) (g : Fin 128) : ∀ a, S1x1x1x8x128.size a = 0 ∨
    (![b.val, s.val, 1, g.val, 0] : Fin 5 → Nat) a + (![1, 1, 1, 0, 1] : Fin 5 → Nat) a * (S1x1x1x8x128.size a - 1)
      < S3x2x2x128x128.size a := by
  intro a; right; fin_cases a <;> simp <;> omega

/-- Group `g`'s row of weights, sixteen times over. -/
abbrev rowW (b : Fin 3) (s : Fin 2) (g : Fin 128) : LoadRect S3x2x2x128x128 :=
  ⟨![b.val, s.val, 0, g.val, 0], S1x1x1x16x128.size, ![1, 1, 1, 0, 1], rowW_inb b s g⟩

/-- Group `g`'s row of columns, eight times over. -/
abbrev rowD (b : Fin 3) (s : Fin 2) (g : Fin 128) : LoadRect S3x2x2x128x128 :=
  ⟨![b.val, s.val, 1, g.val, 0], S1x1x1x8x128.size, ![1, 1, 1, 0, 1], rowD_inb b s g⟩

/-- Tile `t` of the staged block of `x`. -/
abbrev xR (t : Fin 32) : Rect S96x8192 :=
  Rect.unit (s := S96x8192) ![0, 256 * t.val] S96x256.size (by intro a; fin_cases a <;> simp <;> omega)

/-- Half `h` of the permutation. -/
abbrev permR (h : Fin 2) : Rect S2x128 :=
  Rect.unit (s := S2x128) ![h.val, 0] S1x128.size (by revert h; decide)

/-! ## The program -/

section Program
variable {nD : Nat} {τ : Topo} {sig : RefSig} {Λ : Labels} {F : FTy → Type} [FloatOps F] {α : Type}

/-- The kernel's programs. -/
abbrev P (nD : Nat) (τ : Topo) (sig : RefSig) (F : FTy → Type) (Λ : Labels) (α : Type) : Type 1 := Prog (TpuEff nD τ sig (Elt F) Λ .tc) α

/-- A load of a VMEM buffer. -/
abbrev ld {s : Shape} {e : EltTy} (m : Memref sig .tc .vmem s e) (r : LoadRect s) (h : 0 < r.shape.numel)
    (k : (r.shape.Idx → Elt F e) → P nD τ sig F Λ α) : P nD τ sig F Λ α :=
  .op (.load m r (View.loadsAt_vmem h)) k

/-- An unmasked store of a VMEM buffer. -/
abbrev st {s : Shape} {e : EltTy} (m : Memref sig .tc .vmem s e) (r : Rect s) (w : r.shape.Idx → Elt F e)
    (h : (m.access r).Stores Finset.univ) (k : P nD τ sig F Λ α) : P nD τ sig F Λ α :=
  .op (.store m r w Finset.univ h (.inl rfl)) fun _ => k

variable (a1 : Memref sig .tc .vmem S2x2x128x128 .i32) (a2 : Memref sig .tc .vmem S1x2x128x128 .i32)
  (a3 : Memref sig .tc .vmem S96x8192 .bf16) (a4 : Memref sig .tc .vmem S2x128 .i32) (a5 : Memref sig .tc .vmem S96x256 .bf16)
  (a6 : Memref sig .tc .vmem S3x2x2x128x128 .i32) (a7 : Memref sig .tc .vmem S96x256 .f32)

/-- Clear the accumulator. -/
def clear (k : P nD τ sig F Λ α) : P nD τ sig F Λ α :=
  ld a7 accR.toLoadRect numel_S96x256 fun _ =>
  st a7 accR (shapeCast (s := S96x256) S96x256 (zeroAcc (F := F)) (by decide)) (View.stores_vmem_bits_univ numel_S96x256 rfl) <| k

/-- Store one transposed table in the word buffer, in its two forms. -/
def putWords (b : Fin 3) (s : Fin 2) (v : IVec S1x1x128x128 32) (k : P nD τ sig F Λ α) : P nD τ sig F Λ α :=
  ld a6 (wordR b s 0).toLoadRect numel_S1x1x1x128x128 fun _ =>
  st a6 (wordR b s 0) (wordW v) (View.stores_vmem_bits_univ numel_S1x1x1x128x128 rfl) <|
  ld a6 (wordR b s 1).toLoadRect numel_S1x1x1x128x128 fun _ =>
  st a6 (wordR b s 1) (wordD v) (View.stores_vmem_bits_univ numel_S1x1x1x128x128 rfl) <| k

/-- Fill the word buffer from the staged tables. -/
def fill (k : P nD τ sig F Λ α) : P nD τ sig F Λ α :=
  ld a1 (denR 0 0).toLoadRect numel_S1x1x128x128 fun v => putWords a6 0 0 v <|
  ld a1 (denR 0 1).toLoadRect numel_S1x1x128x128 fun v => putWords a6 0 1 v <|
  ld a1 (denR 1 0).toLoadRect numel_S1x1x128x128 fun v => putWords a6 1 0 v <|
  ld a1 (denR 1 1).toLoadRect numel_S1x1x128x128 fun v => putWords a6 1 1 v <|
  ld a2 (spaR 0).toLoadRect numel_S1x1x128x128 fun v => putWords a6 2 0 v <|
  ld a2 (spaR 1).toLoadRect numel_S1x1x128x128 fun v => putWords a6 2 1 v k

/-- Load a group's four rows. -/
def group (b : Fin 3) (g : Fin 128)
    (k : IVec S1x1x1x16x128 32 → IVec S1x1x1x16x128 32 → IVec S1x1x1x8x128 32 → IVec S1x1x1x8x128 32 → P nD τ sig F Λ α) :
    P nD τ sig F Λ α :=
  ld a6 (rowW b 0 g) numel_S1x1x1x16x128 fun v0 =>
  ld a6 (rowW b 1 g) numel_S1x1x1x16x128 fun v1 =>
  ld a6 (rowD b 0 g) numel_S1x1x1x8x128 fun u0 =>
  ld a6 (rowD b 1 g) numel_S1x1x1x8x128 fun u1 => k v0 v1 u0 u1

/-- The word buffer's block of dense group `g` (of a step's 256). -/
def denseBlk (g : Nat) : Fin 3 := ⟨g / 128 % 2, by omega⟩
/-- The row of group `g` within its block. -/
def rowOf (g : Nat) : Fin 128 := ⟨g % 128, by omega⟩

/-- `n` dense groups from `g` on. -/
def denses : (n g : Nat) → (List (FVec F S16x128 .bf16) → P nD τ sig F Λ α) → P nD τ sig F Λ α
  | 0, _, k => k []
  | n + 1, g, k => group a6 (denseBlk g) (rowOf g) fun v0 v1 u0 u1 =>
      denses n (g + 1) fun ps => k (densePieces g v0 v1 u0 u1 ++ ps)

/-- `n` sparse groups from `g` on. -/
def sparses : (n g : Nat) → (List (FVec F S16x128 .bf16) → P nD τ sig F Λ α) → P nD τ sig F Λ α
  | 0, _, k => k []
  | n + 1, g, k => group a6 2 (rowOf g) fun v0 v1 u0 u1 =>
      sparses n (g + 1) fun ps => k (sparsePieces v0 v1 u0 u1 ++ ps)

/-- `n` tiles from `t` on. -/
def tiles : (n t : Nat) → FVec F S96x256 .f32 → (FVec F S96x256 .f32 → P nD τ sig F Λ α) → P nD τ sig F Λ α
  | 0, _, acc, k => k acc
  | n + 1, t, acc, k => denses a6 8 (8 * t) fun ds => sparses a6 4 (4 * t) fun ss =>
      ld a3 (xR ⟨t % 32, by omega⟩).toLoadRect numel_S96x256 fun x =>
      tiles n (t + 1) (addf acc (tileProd ds ss x)) k

/-- Add the step's sum to the accumulator. -/
def accum (acc : FVec F S96x256 .f32) (k : P nD τ sig F Λ α) : P nD τ sig F Λ α :=
  ld a7 accR.toLoadRect numel_S96x256 fun v =>
  ld a7 accR.toLoadRect numel_S96x256 fun _ =>
  st a7 accR (shapeCast (s := S96x256) S96x256 (addf v acc) (by decide)) (View.stores_vmem_bits_univ numel_S96x256 rfl) <| k

/-- Write the output. -/
def emit (h5 : (a5.access accR).Stores Finset.univ) : P nD τ sig F Λ PUnit :=
  ld a7 accR.toLoadRect numel_S96x256 fun v =>
  ld a4 (permR 0).toLoadRect numel_S1x128 fun p0 =>
  ld a4 (permR 1).toLoadRect numel_S1x128 fun p1 =>
  ld a5 accR.toLoadRect numel_S96x256 fun _ =>
  st a5 accR (outOf (F := F) v p0 p1) h5 <| .ret ⟨⟩

/-- The body past its first conditional. -/
def main (c : Prop) [Decidable c] (h5 : (a5.access accR).Stores Finset.univ) : P nD τ sig F Λ PUnit :=
  fill a1 a2 a6 <| tiles a3 a6 32 0 (zeroAcc (F := F)) fun acc => accum a7 acc <|
    if _ : c then emit a4 a5 a7 h5 else .ret ⟨⟩

end Program

end Cert.Proof.Rolled
-- ==== Proof.Kernel.Body.lean ====
/-
  The printed kernel's body is the rolled one, at the first grid point (which clears the accumulator) and at the others.
-/
module

public import proofs.«01_k».proof.Kernel
public import proofs.«01_k».proof.Proof.Rolled
public import Idealize.ShloMosaic.Lib.Pipeline.Regions

@[expose] public section

noncomputable section

namespace Cert.Kernel

open Idealize.ShloMosaic Idealize.SL.Sem
open Cert.Proof

variable {F : FTy → Type} [FloatOps F] [Facts]

/-- The condition under which the accumulator is cleared. -/
abbrev isFirst (i : grid0.Coords) : Prop :=
  Scalar.cmpi .ne (Scalar.extui (Scalar.cmpi .eq (BitVec.ofNat 32 (i 0).val) 0#32)) 0#32 = 1#1

variable (i : grid0.Coords) (arg1 : Memref sig .tc .vmem S2x2x128x128 .i32) (harg1 : arg1.IsWhole) (arg2 : Memref sig .tc .vmem S1x2x128x128 .i32) (harg2 : arg2.IsWhole) (arg3 : Memref sig .tc .vmem S96x8192 .bf16) (harg3 : arg3.IsWhole) (arg4 : Memref sig .tc .vmem S2x128 .i32) (harg4 : arg4.IsWhole) (arg5 : Memref sig .tc .vmem S96x256 .bf16) (harg5 : arg5.IsWhole) (arg6 : Memref sig .tc .vmem S3x2x2x128x128 .i32) (harg6 : arg6.IsWhole) (arg7 : Memref sig .tc .vmem S96x256 .f32) (harg7 : arg7.IsWhole)

/-- The body's first stretch with its conditional taken: the accumulator cleared and the first two tables stored. -/
theorem part1_first (h : isFirst i) :
    k0_part1 (F := F) i arg1 harg1 arg2 harg2 arg3 harg3 arg4 harg4 arg5 harg5 arg6 harg6 arg7 harg7 =
      Rolled.clear arg7 (
        Rolled.ld arg1 (Rolled.denR 0 0).toLoadRect Rolled.numel_S1x1x128x128 fun v => Rolled.putWords arg6 0 0 v <|
        Rolled.ld arg1 (Rolled.denR 0 1).toLoadRect Rolled.numel_S1x1x128x128 fun v => Rolled.putWords arg6 0 1 v <|
        .ret (BitVec.ofNat 32 (i 0).val)) := by
  unfold k0_part1
  dsimp only
  rw [dif_pos h]
  chain_rfl

/-- The same with its conditional not taken. -/
theorem part1_rest (h : ¬ isFirst i) :
    k0_part1 (F := F) i arg1 harg1 arg2 harg2 arg3 harg3 arg4 harg4 arg5 harg5 arg6 harg6 arg7 harg7 =
      Rolled.ld arg1 (Rolled.denR 0 0).toLoadRect Rolled.numel_S1x1x128x128 fun v => Rolled.putWords arg6 0 0 v <|
        Rolled.ld arg1 (Rolled.denR 0 1).toLoadRect Rolled.numel_S1x1x128x128 fun v => Rolled.putWords arg6 0 1 v <|
        .ret (BitVec.ofNat 32 (i 0).val) := by
  unfold k0_part1
  dsimp only
  rw [dif_neg h]
  chain_rfl

include harg5 in
/-- The output's store is of whole words. -/
theorem stores_out : (arg5.access Rolled.accR).Stores Finset.univ :=
  View.stores_vmem Rolled.numel_S96x256 (harg5.storeExact_slice rfl _ Shapes2.Facts₀.packedbf16_S96x256_S96x256_0_0) (fun _ => rfl)

set_option maxRecDepth 100000 in
/-- The body at a point where the accumulator is cleared. -/
theorem main_first (h : isFirst i) :
    cc0_tc_main (F := F) i arg1 harg1 arg2 harg2 arg3 harg3 arg4 harg4 arg5 harg5 arg6 harg6 arg7 harg7 =
      Rolled.clear arg7 (Rolled.main arg1 arg2 arg3 arg4 arg5 arg6 arg7 (k0_cond2 i = 1#1) (stores_out arg5 harg5)) := by
  unfold cc0_tc_main k0_part295
  rw [part1_first (h := h)]
  chain_rfl

set_option maxRecDepth 100000 in
/-- The body at the other points. -/
theorem main_rest (h : ¬ isFirst i) :
    cc0_tc_main (F := F) i arg1 harg1 arg2 harg2 arg3 harg3 arg4 harg4 arg5 harg5 arg6 harg6 arg7 harg7 =
      Rolled.main arg1 arg2 arg3 arg4 arg5 arg6 arg7 (k0_cond2 i = 1#1) (stores_out arg5 harg5) := by
  unfold cc0_tc_main k0_part295
  rw [part1_rest (h := h)]
  chain_rfl

end Cert.Kernel
-- ==== Proof.RolledWp.lean ====
/-
  What the rolled body does, as a triple over the contents of its buffers: the two staged tables, the staged block of
  `x`, the permutation, the output's block, the word buffer and the accumulator. Generic over the signature, the labels
  and the float type, as the program is.
-/
module

public import proofs.«01_k».proof.Proof.Rolled
public import Idealize.ShloMosaic.Lib.Pipeline.FrameBody
public import Idealize.ShloMosaic.Lib.Tactic

@[expose] public section

noncomputable section

namespace Cert.Proof.Rolled

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## The values -/

section Values
variable {F : FTy → Type} [FloatOps F]

/-- The words of slot `s` of the three blocks: two of the dense table, one of the sparse. -/
def tableOf (A : IVec S2x2x128x128 32) (B : IVec S1x2x128x128 32) (b : Fin 3) (s : Fin 2) : IVec S1x1x128x128 32 :=
  match b with
  | 0 => fun x => A ((denR 0 s).toLoadRect.idx x)
  | 1 => fun x => A ((denR 1 s).toLoadRect.idx x)
  | 2 => fun x => B ((spaR s).toLoadRect.idx x)

/-- The word buffer's contents over `W` once the tables are stored. -/
def filled (A : IVec S2x2x128x128 32) (B : IVec S1x2x128x128 32) (W : IVec S3x2x2x128x128 32) : IVec S3x2x2x128x128 32 :=
  let put (b : Fin 3) (s : Fin 2) (W : IVec S3x2x2x128x128 32) : IVec S3x2x2x128x128 32 :=
    (wordR b s 1).overlay ((wordR b s 0).overlay W (wordW (tableOf A B b s))) (wordD (tableOf A B b s))
  put 2 1 (put 2 0 (put 1 1 (put 1 0 (put 0 1 (put 0 0 W)))))

/-- The pieces of `n` dense groups from `g` on, off the word buffer's contents. -/
def densesVal (W : IVec S3x2x2x128x128 32) : (n g : Nat) → List (FVec F S16x128 .bf16)
  | 0, _ => []
  | n + 1, g => densePieces g (fun x => W ((rowW (denseBlk g) 0 (rowOf g)).idx x)) (fun x => W ((rowW (denseBlk g) 1 (rowOf g)).idx x))
      (fun x => W ((rowD (denseBlk g) 0 (rowOf g)).idx x)) (fun x => W ((rowD (denseBlk g) 1 (rowOf g)).idx x)) ++ densesVal W n (g + 1)

/-- The pieces of `n` sparse groups from `g` on. -/
def sparsesVal (W : IVec S3x2x2x128x128 32) : (n g : Nat) → List (FVec F S16x128 .bf16)
  | 0, _ => []
  | n + 1, g => sparsePieces (fun x => W ((rowW 2 0 (rowOf g)).idx x)) (fun x => W ((rowW 2 1 (rowOf g)).idx x))
      (fun x => W ((rowD 2 0 (rowOf g)).idx x)) (fun x => W ((rowD 2 1 (rowOf g)).idx x)) ++ sparsesVal W n (g + 1)

/-- The products of `n` tiles from `t` on, added to `acc`. -/
def tilesVal (W : IVec S3x2x2x128x128 32) (X : FVec F S96x8192 .bf16) : (n t : Nat) → FVec F S96x256 .f32 → FVec F S96x256 .f32
  | 0, _, acc => acc
  | n + 1, t, acc => tilesVal W X n (t + 1)
      (addf acc (tileProd (densesVal W 8 (8 * t)) (sparsesVal W 4 (4 * t)) fun x => X ((xR ⟨t % 32, by omega⟩).toLoadRect.idx x)))

end Values

/-! ## The triples -/

section Triples

variable {nD : Nat} {τ : Topo} {sig : RefSig} {Λ : Labels} {F : FTy → Type} [FloatOps F] {α : Type}
variable {Ix : Type} [DecidableEq Ix] {Name : Type} [DecidableEq Name] [Infinite Name] {U : Type} [URA U] {Lvl : Type} [Preorder Lvl]
variable {defs : Defs nD τ sig (Elt F) Λ} (𝒱 : Variants) (c : Dev nD) {E : Set Name}

local notation "𝕄" => MT nD τ sig Ix (Elt F) Name U Lvl

/-- The weakest precondition of a program of the kernel on device `c`'s TensorCore. -/
abbrev W (defs : Defs nD τ sig (Elt F) Λ) (𝒱 : Variants) (c : Dev nD) (E : Set Name) {α : Type} (p : P nD τ sig F Λ α) (Q : α → sProp 𝕄) : sProp 𝕄 :=
  wp frame (wpE defs 𝒱 (c : Thread nD τ) none) E p Q

/-- A load reads the contents and leaves them. -/
theorem wp_ld {s : Shape} {e : EltTy} (m : Memref sig .tc .vmem s e) (r : LoadRect s) (h : 0 < r.shape.numel) (X : s.Idx → Elt F e)
    (k : (r.shape.Idx → Elt F e) → P nD τ sig F Λ α) (Q : α → sProp 𝕄) :
    owns (c : Thread nD τ) m fullShare X
      ⊢ iprop((owns (c : Thread nD τ) m fullShare X -∗ W defs 𝒱 c E (k fun x => X (r.idx x)) Q) -∗ W defs 𝒱 c E (ld m r h k) Q) := by
  unfold owns
  iintro ⟨%f, %hf, H⟩ Hk
  subst hf
  iapply (wp_load 𝒱 (c : Thread nD τ) none E (m := m) (r := r) (m.view.setOn_subset_set _)) $$ H
  iintro H
  iapply Hk
  iexists f
  isplitr
  · ipureintro; rfl
  · iexact H

/-- A store overlays the contents. -/
theorem wp_st {s : Shape} {e : EltTy} (m : Memref sig .tc .vmem s e) (r : Rect s) (w : r.shape.Idx → Elt F e)
    (h : (m.access r).Stores Finset.univ) (X : s.Idx → Elt F e)
    (k : P nD τ sig F Λ α) (Q : α → sProp 𝕄) :
    owns (c : Thread nD τ) m fullShare X
      ⊢ iprop((owns (c : Thread nD τ) m fullShare (r.overlay X w) -∗ W defs 𝒱 c E k Q) -∗ W defs 𝒱 c E (st m r w h k) Q) := by
  unfold owns
  iintro ⟨%f, %hf, H⟩ Hk
  subst hf
  iapply (wp_store 𝒱 (c : Thread nD τ) none E (m := m) (r := r) (Mk := Finset.univ)
    ((View.setOn_subset_set _ _).trans (m.view.set_slice_subset r))) $$ H
  iintro H
  iapply Hk
  iexists _
  isplitr [H]
  rotate_left
  · iexact H
  · ipureintro
    funext j
    by_cases hj : j ∈ r.set
    · obtain ⟨i, rfl⟩ := r.exists_idx_of_mem hj
      exact (View.read_slice_write_emb r f w (Finset.mem_univ i)).trans (Rect.overlay_emb r _ w i).symm
    · rw [Rect.overlay_of_not_mem _ _ _ hj]
      exact View.read_slice_write_of_not_mem r f w _ (by rw [Rect.map_emb_univ]; exact hj)

theorem accR_idx (x : S96x256.Idx) : accR.toLoadRect.idx x = x := by
  funext a; apply Fin.ext; fin_cases a <;> simp [accR, LoadRect.idx, Rect.unit, Rect.toLoadRect]

theorem accR_overlay {β : Type} (X G : S96x256.Idx → β) : accR.overlay X G = G := by
  funext x
  exact (congrArg (accR.overlay X G) (accR_idx x).symm).trans (Rect.overlay_emb accR X G x)

theorem shapeCast_self {β : Type} (X : S96x256.Idx → β) (h) : shapeCast (s := S96x256) S96x256 X h = X := by
  funext x; simp [shapeCast]

variable (a1 : Memref sig .tc .vmem S2x2x128x128 .i32) (a2 : Memref sig .tc .vmem S1x2x128x128 .i32)
  (a3 : Memref sig .tc .vmem S96x8192 .bf16) (a4 : Memref sig .tc .vmem S2x128 .i32) (a5 : Memref sig .tc .vmem S96x256 .bf16)
  (a6 : Memref sig .tc .vmem S3x2x2x128x128 .i32) (a7 : Memref sig .tc .vmem S96x256 .f32)

/-- Clearing leaves the accumulator zero. -/
theorem wp_clear (X : S96x256.Idx → F .f32) (k : P nD τ sig F Λ α) (Q : α → sProp 𝕄) :
    (owns (c : Thread nD τ) a7 fullShare X : sProp 𝕄)
      ⊢ iprop((owns (c : Thread nD τ) a7 fullShare (zeroAcc (F := F)) -∗ W defs 𝒱 c E k Q) -∗ W defs 𝒱 c E (clear a7 k) Q) := by
  unfold clear
  iintro H Hk
  iapply (wp_ld 𝒱 c a7) $$ H
  iintro H
  iapply (wp_st 𝒱 c a7) $$ H
  rw [accR_overlay, shapeCast_self]
  iexact Hk

/-- One transposed table stored in its two forms. -/
theorem wp_putWords (b : Fin 3) (s : Fin 2) (v : IVec S1x1x128x128 32) (Y : IVec S3x2x2x128x128 32) (k : P nD τ sig F Λ α) (Q : α → sProp 𝕄) :
    (owns (c : Thread nD τ) a6 fullShare Y : sProp 𝕄)
      ⊢ iprop((owns (c : Thread nD τ) a6 fullShare ((wordR b s 1).overlay ((wordR b s 0).overlay Y (wordW v)) (wordD v)) -∗ W defs 𝒱 c E k Q)
          -∗ W defs 𝒱 c E (putWords a6 b s v k) Q) := by
  unfold putWords
  iintro H Hk
  iapply (wp_ld 𝒱 c a6) $$ H
  iintro H
  iapply (wp_st 𝒱 c a6) $$ H
  iintro H
  iapply (wp_ld 𝒱 c a6) $$ H
  iintro H
  iapply (wp_st 𝒱 c a6) $$ H
  iexact Hk

/-- The word buffer filled from the tables. -/
theorem wp_fill (A : IVec S2x2x128x128 32) (B : IVec S1x2x128x128 32) (Y : IVec S3x2x2x128x128 32) (k : P nD τ sig F Λ α) (Q : α → sProp 𝕄) :
    iprop(owns (c : Thread nD τ) a1 fullShare A ∗ owns (c : Thread nD τ) a2 fullShare B ∗ owns (c : Thread nD τ) a6 fullShare Y)
      ⊢ (iprop(((owns (c : Thread nD τ) a1 fullShare A ∗ owns (c : Thread nD τ) a2 fullShare B ∗ owns (c : Thread nD τ) a6 fullShare (filled A B Y))
            -∗ W defs 𝒱 c E k Q) -∗ W defs 𝒱 c E (fill a1 a2 a6 k) Q) : sProp 𝕄) := by
  unfold fill
  iintro ⟨H1, H2, H6⟩ Hk
  iapply (wp_ld 𝒱 c a1) $$ H1
  iintro H1
  iapply (wp_putWords 𝒱 c a6) $$ H6
  iintro H6
  iapply (wp_ld 𝒱 c a1) $$ H1
  iintro H1
  iapply (wp_putWords 𝒱 c a6) $$ H6
  iintro H6
  iapply (wp_ld 𝒱 c a1) $$ H1
  iintro H1
  iapply (wp_putWords 𝒱 c a6) $$ H6
  iintro H6
  iapply (wp_ld 𝒱 c a1) $$ H1
  iintro H1
  iapply (wp_putWords 𝒱 c a6) $$ H6
  iintro H6
  iapply (wp_ld 𝒱 c a2) $$ H2
  iintro H2
  iapply (wp_putWords 𝒱 c a6) $$ H6
  iintro H6
  iapply (wp_ld 𝒱 c a2) $$ H2
  iintro H2
  iapply (wp_putWords 𝒱 c a6) $$ H6
  iintro H6
  iapply Hk
  isplitl [H1]; · iexact H1
  isplitl [H2]; · iexact H2
  iexact H6

/-- A group's four rows loaded. -/
theorem wp_group (b : Fin 3) (g : Fin 128) (Y : IVec S3x2x2x128x128 32)
    (k : IVec S1x1x1x16x128 32 → IVec S1x1x1x16x128 32 → IVec S1x1x1x8x128 32 → IVec S1x1x1x8x128 32 → P nD τ sig F Λ α) (Q : α → sProp 𝕄) :
    (owns (c : Thread nD τ) a6 fullShare Y : sProp 𝕄)
      ⊢ iprop((owns (c : Thread nD τ) a6 fullShare Y -∗ W defs 𝒱 c E
            (k (fun x => Y ((rowW b 0 g).idx x)) (fun x => Y ((rowW b 1 g).idx x)) (fun x => Y ((rowD b 0 g).idx x)) (fun x => Y ((rowD b 1 g).idx x))) Q)
          -∗ W defs 𝒱 c E (group a6 b g k) Q) := by
  unfold group
  iintro H Hk
  iapply (wp_ld 𝒱 c a6) $$ H
  iintro H
  iapply (wp_ld 𝒱 c a6) $$ H
  iintro H
  iapply (wp_ld 𝒱 c a6) $$ H
  iintro H
  iapply (wp_ld 𝒱 c a6) $$ H
  iexact Hk

/-- The dense groups' pieces. -/
theorem wp_denses (Y : IVec S3x2x2x128x128 32) (Q : α → sProp 𝕄) :
    ∀ (n g : Nat) (k : List (FVec F S16x128 .bf16) → P nD τ sig F Λ α),
    (owns (c : Thread nD τ) a6 fullShare Y : sProp 𝕄)
      ⊢ iprop((owns (c : Thread nD τ) a6 fullShare Y -∗ W defs 𝒱 c E (k (densesVal Y n g)) Q) -∗ W defs 𝒱 c E (denses a6 n g k) Q)
  | 0, _, _ => by
    unfold denses densesVal
    iintro H Hk; iapply Hk; iexact H
  | n + 1, g, k => by
    unfold denses densesVal
    iintro H Hk
    iapply (wp_group 𝒱 c a6) $$ H
    iintro H
    iapply (wp_denses Y Q n (g + 1)) $$ H
    iexact Hk

/-- The sparse groups' pieces. -/
theorem wp_sparses (Y : IVec S3x2x2x128x128 32) (Q : α → sProp 𝕄) :
    ∀ (n g : Nat) (k : List (FVec F S16x128 .bf16) → P nD τ sig F Λ α),
    (owns (c : Thread nD τ) a6 fullShare Y : sProp 𝕄)
      ⊢ iprop((owns (c : Thread nD τ) a6 fullShare Y -∗ W defs 𝒱 c E (k (sparsesVal Y n g)) Q) -∗ W defs 𝒱 c E (sparses a6 n g k) Q)
  | 0, _, _ => by
    unfold sparses sparsesVal
    iintro H Hk; iapply Hk; iexact H
  | n + 1, g, k => by
    unfold sparses sparsesVal
    iintro H Hk
    iapply (wp_group 𝒱 c a6) $$ H
    iintro H
    iapply (wp_sparses Y Q n (g + 1)) $$ H
    iexact Hk

/-- The tiles' products. -/
theorem wp_tiles (Y : IVec S3x2x2x128x128 32) (X : FVec F S96x8192 .bf16) (Q : α → sProp 𝕄) (k : FVec F S96x256 .f32 → P nD τ sig F Λ α) :
    ∀ (n t : Nat) (acc : FVec F S96x256 .f32),
    iprop(owns (c : Thread nD τ) a3 fullShare X ∗ owns (c : Thread nD τ) a6 fullShare Y)
      ⊢ (iprop(((owns (c : Thread nD τ) a3 fullShare X ∗ owns (c : Thread nD τ) a6 fullShare Y) -∗ W defs 𝒱 c E (k (tilesVal Y X n t acc)) Q)
          -∗ W defs 𝒱 c E (tiles a3 a6 n t acc k) Q) : sProp 𝕄)
  | 0, _, _ => by
    unfold tiles tilesVal
    iintro H Hk; iapply Hk; iexact H
  | n + 1, t, acc => by
    unfold tiles tilesVal
    iintro ⟨H3, H6⟩ Hk
    iapply (wp_denses 𝒱 c a6) $$ H6
    iintro H6
    iapply (wp_sparses 𝒱 c a6) $$ H6
    iintro H6
    iapply (wp_ld 𝒱 c a3) $$ H3
    iintro H3
    ihave H := (show iprop(owns (c : Thread nD τ) a3 fullShare X ∗ owns (c : Thread nD τ) a6 fullShare Y) ⊢ (_ : sProp 𝕄) from .rfl) $$ [H3 H6]
    · isplitl [H3]; · iexact H3
      iexact H6
    iapply (wp_tiles Y X Q k n (t + 1)) $$ H
    iexact Hk

theorem read_accR {β : Type} (X : S96x256.Idx → β) : (fun x => X (accR.toLoadRect.idx x)) = X :=
  funext fun x => congrArg X (accR_idx x)

/-- A load of a whole buffer of the accumulator's shape. -/
theorem wp_ldAcc {e : EltTy} (m : Memref sig .tc .vmem S96x256 e) (X : S96x256.Idx → Elt F e) (h)
    (k : (S96x256.Idx → Elt F e) → P nD τ sig F Λ α) (Q : α → sProp 𝕄) :
    owns (c : Thread nD τ) m fullShare X
      ⊢ iprop((owns (c : Thread nD τ) m fullShare X -∗ W defs 𝒱 c E (k X) Q) -∗ W defs 𝒱 c E (ld m accR.toLoadRect h k) Q) := by
  have := wp_ld (defs := defs) (E := E) 𝒱 c m accR.toLoadRect h X k Q
  rw [read_accR] at this
  exact this

/-- The step's sum added to the accumulator. -/
theorem wp_accum (X : FVec F S96x256 .f32) (acc : FVec F S96x256 .f32) (k : P nD τ sig F Λ α) (Q : α → sProp 𝕄) :
    (owns (c : Thread nD τ) a7 fullShare X : sProp 𝕄)
      ⊢ iprop((owns (c : Thread nD τ) a7 fullShare (addf X acc) -∗ W defs 𝒱 c E k Q) -∗ W defs 𝒱 c E (accum a7 acc k) Q) := by
  unfold accum
  iintro H Hk
  iapply (wp_ldAcc 𝒱 c a7) $$ H
  iintro H
  iapply (wp_ldAcc 𝒱 c a7) $$ H
  iintro H
  iapply (wp_st 𝒱 c a7) $$ H
  rw [accR_overlay, shapeCast_self]
  iexact Hk

/-- The two halves of the permutation. -/
def permHalf (Pm : IVec S2x128 32) (h : Fin 2) : IVec S1x128 32 := fun x => Pm ((permR h).toLoadRect.idx x)

/-- The output written. -/
theorem wp_emit (h5 : (a5.access accR).Stores Finset.univ) (Pm : IVec S2x128 32) (O : FVec F S96x256 .bf16) (X : FVec F S96x256 .f32)
    (Q : PUnit → sProp 𝕄) :
    iprop(owns (c : Thread nD τ) a4 fullShare Pm ∗ owns (c : Thread nD τ) a5 fullShare O ∗ owns (c : Thread nD τ) a7 fullShare X)
      ⊢ (iprop(((owns (c : Thread nD τ) a4 fullShare Pm ∗ owns (c : Thread nD τ) a5 fullShare (outOf X (permHalf Pm 0) (permHalf Pm 1))
            ∗ owns (c : Thread nD τ) a7 fullShare X) -∗ Q ⟨⟩) -∗ W defs 𝒱 c E (emit a4 a5 a7 h5) Q) : sProp 𝕄) := by
  unfold emit
  iintro ⟨H4, H5, H7⟩ Hk
  iapply (wp_ldAcc 𝒱 c a7) $$ H7
  iintro H7
  iapply (wp_ld 𝒱 c a4) $$ H4
  iintro H4
  iapply (wp_ld 𝒱 c a4) $$ H4
  iintro H4
  iapply (wp_ld 𝒱 c a5) $$ H5
  iintro H5
  iapply (wp_st 𝒱 c a5) $$ H5
  rw [accR_overlay]
  iintro H5
  unfold W; rw [wp_ret]
  imodintro
  iapply Hk
  isplitl [H4]; · iexact H4
  isplitl [H5]; · iexact H5
  iexact H7

/-- The step's sum: the word buffer filled from the tables, and the 32 tiles' products. -/
def stepSum (A : IVec S2x2x128x128 32) (B : IVec S1x2x128x128 32) (X : FVec F S96x8192 .bf16) (Y : IVec S3x2x2x128x128 32) : FVec F S96x256 .f32 :=
  tilesVal (filled A B Y) X 32 0 (zeroAcc (F := F))

/-- The body past its first conditional: the step's sum is added to the accumulator and, at the last point, the output is
    written from it; the inputs stay. -/
theorem wp_main (q : Prop) [Decidable q] (h5 : (a5.access accR).Stores Finset.univ) (A : IVec S2x2x128x128 32) (B : IVec S1x2x128x128 32)
    (X : FVec F S96x8192 .bf16) (Pm : IVec S2x128 32) (O : FVec F S96x256 .bf16) (Y : IVec S3x2x2x128x128 32) (R : FVec F S96x256 .f32)
    (Q : PUnit → sProp 𝕄) :
    iprop(owns (c : Thread nD τ) a1 fullShare A ∗ owns (c : Thread nD τ) a2 fullShare B ∗ owns (c : Thread nD τ) a3 fullShare X
        ∗ owns (c : Thread nD τ) a4 fullShare Pm ∗ owns (c : Thread nD τ) a5 fullShare O ∗ owns (c : Thread nD τ) a6 fullShare Y
        ∗ owns (c : Thread nD τ) a7 fullShare R)
      ⊢ (iprop(((owns (c : Thread nD τ) a1 fullShare A ∗ owns (c : Thread nD τ) a2 fullShare B ∗ owns (c : Thread nD τ) a3 fullShare X
            ∗ owns (c : Thread nD τ) a4 fullShare Pm
            ∗ owns (c : Thread nD τ) a5 fullShare (if q then outOf (addf R (stepSum A B X Y)) (permHalf Pm 0) (permHalf Pm 1) else O)
            ∗ owns (c : Thread nD τ) a6 fullShare (filled A B Y)
            ∗ owns (c : Thread nD τ) a7 fullShare (addf R (stepSum A B X Y))) -∗ Q ⟨⟩)
          -∗ W defs 𝒱 c E (main a1 a2 a3 a4 a5 a6 a7 q h5) Q) : sProp 𝕄) := by
  unfold main
  iintro ⟨H1, H2, H3, H4, H5, H6, H7⟩ Hk
  ihave H := (show iprop(owns (c : Thread nD τ) a1 fullShare A ∗ owns (c : Thread nD τ) a2 fullShare B ∗ owns (c : Thread nD τ) a6 fullShare Y) ⊢ (_ : sProp 𝕄) from .rfl) $$ [H1 H2 H6]
  · isplitl [H1]; · iexact H1
    isplitl [H2]; · iexact H2
    iexact H6
  iapply (wp_fill 𝒱 c a1 a2 a6) $$ H
  iintro ⟨H1, H2, H6⟩
  ihave H := (show iprop(owns (c : Thread nD τ) a3 fullShare X ∗ owns (c : Thread nD τ) a6 fullShare (filled A B Y)) ⊢ (_ : sProp 𝕄) from .rfl) $$ [H3 H6]
  · isplitl [H3]; · iexact H3
    iexact H6
  iapply (wp_tiles 𝒱 c a3 a6) $$ H
  iintro ⟨H3, H6⟩
  iapply (wp_accum 𝒱 c a7) $$ H7
  iintro H7
  by_cases hq : q
  · rw [dif_pos hq, if_pos hq]
    ihave H := (show iprop(owns (c : Thread nD τ) a4 fullShare Pm ∗ owns (c : Thread nD τ) a5 fullShare O
        ∗ owns (c : Thread nD τ) a7 fullShare (addf R (stepSum A B X Y))) ⊢ (_ : sProp 𝕄) from .rfl) $$ [H4 H5 H7]
    · isplitl [H4]; · iexact H4
      isplitl [H5]; · iexact H5
      iexact H7
    iapply (wp_emit 𝒱 c a4 a5 a7) $$ H
    iintro ⟨H4, H5, H7⟩
    iapply Hk
    isplitl [H1]; · iexact H1
    isplitl [H2]; · iexact H2
    isplitl [H3]; · iexact H3
    isplitl [H4]; · iexact H4
    isplitl [H5]; · iexact H5
    isplitl [H6]; · iexact H6
    iexact H7
  · rw [dif_neg hq, if_neg hq]; unfold W; rw [wp_ret]
    imodintro
    iapply Hk
    isplitl [H1]; · iexact H1
    isplitl [H2]; · iexact H2
    isplitl [H3]; · iexact H3
    isplitl [H4]; · iexact H4
    isplitl [H5]; · iexact H5
    isplitl [H6]; · iexact H6
    iexact H7

end Triples

end Cert.Proof.Rolled
-- ==== Proof.RolledWords.lean ====
/-
  The word buffer once the tables are stored: its contents are the tables' words, whatever it held before.
-/
module

public import proofs.«01_k».proof.Proof.RolledWp

@[expose] public section

noncomputable section

namespace Cert.Proof.Rolled

open Idealize.ShloMosaic Idealize.SL.Sem

/-- An index of the word buffer's part: the row and the lane of `j`. -/
def inPart (j : S3x2x2x128x128.Idx) : S1x1x1x128x128.Idx := fun a => match a with
  | 0 => (0 : Fin 1) | 1 => (0 : Fin 1) | 2 => (0 : Fin 1) | 3 => j 3 | 4 => j 4

/-- The word buffer's contents: the transposed tables, by block, slot and half. -/
def words (A : IVec S2x2x128x128 32) (B : IVec S1x2x128x128 32) : IVec S3x2x2x128x128 32 := fun j =>
  if (j 2).val = 0 then wordW (tableOf A B (j 0) (j 1)) (inPart j) else wordD (tableOf A B (j 0) (j 1)) (inPart j)

/-- An overlay of one part, index by index. -/
theorem overlay_word (b : Fin 3) (s f : Fin 2) (Y : IVec S3x2x2x128x128 32) (G : IVec S1x1x1x128x128 32) (j : S3x2x2x128x128.Idx) :
    (wordR b s f).overlay Y G j = if (j 0).val = b.val ∧ (j 1).val = s.val ∧ (j 2).val = f.val then G (inPart j) else Y j := by
  by_cases h : (j 0).val = b.val ∧ (j 1).val = s.val ∧ (j 2).val = f.val
  · rw [if_pos h]
    have e : (wordR b s f).emb (inPart j) = j := by
      funext a; apply Fin.ext
      fin_cases a
      · simpa [wordR, Rect.unit, Rect.emb, LoadRect.idx, inPart] using h.1.symm
      · simpa [wordR, Rect.unit, Rect.emb, LoadRect.idx, inPart] using h.2.1.symm
      · simpa [wordR, Rect.unit, Rect.emb, LoadRect.idx, inPart] using h.2.2.symm
      · simp [wordR, Rect.unit, Rect.emb, LoadRect.idx, inPart]
      · simp [wordR, Rect.unit, Rect.emb, LoadRect.idx, inPart]
    exact (congrArg _ e.symm).trans (Rect.overlay_emb _ _ _ _)
  · rw [if_neg h]
    refine Rect.overlay_of_not_mem _ _ _ fun hm => h ?_
    obtain ⟨i, hi⟩ := (wordR b s f).exists_idx_of_mem hm
    subst hi
    have h0 := (i 0).isLt; have h1 := (i 1).isLt; have h2 := (i 2).isLt
    simp [Rect.unit] at h0 h1 h2
    simp [wordR, Rect.unit, Rect.emb, LoadRect.idx, h0, h1, h2]

theorem filled_eq (A : IVec S2x2x128x128 32) (B : IVec S1x2x128x128 32) (Y : IVec S3x2x2x128x128 32) : filled A B Y = words A B := by
  funext j
  unfold filled words
  simp only [overlay_word]
  have h0 : (j 0).val < 3 := (j 0).isLt
  have h1 : (j 1).val < 2 := (j 1).isLt
  have h2 : (j 2).val < 2 := (j 2).isLt
  generalize hb : (j 0 : Fin 3) = b
  generalize hs : (j 1 : Fin 2) = s
  generalize hf : (j 2 : Fin 2) = f
  clear h0 h1 h2
  revert hb hs hf
  fin_cases b <;> fin_cases s <;> fin_cases f <;> intro hb hs hf <;> simp [hb, hs, hf]

end Cert.Proof.Rolled
-- ==== Proof.Kernel.Run.lean ====
/-
  The run of the kernel: what each grid point finds and leaves — the accumulator carried from point to point, the word
  buffer at anything, the inputs' blocks as staged and the output written at the last point — and the program's final
  memory read off it.
-/
module

public import proofs.«01_k».proof.Proof.Kernel.Body
public import proofs.«01_k».proof.Proof.RolledWords
public import proofs.«01_k».proof.Proof.Gen.Kernel.Frame
public import Idealize.ShloMosaic.Lib.Pipeline.Value

@[expose] public section

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Proof

variable {F : FTy → Type} [FloatOps F]

local notation "𝕄" => MT nD τ sig Unit (Elt F) ℕ (UR sig nD τ) ℕ

variable (m : (ℓ : Loc nD τ sig) → Buf (Elt F) ℓ)

/-- The step's sum at point `t`, from the staged blocks. -/
def stepAt (c : Dev nD) (t : Fin cfg0.N) : FVec F S96x256 .f32 :=
  Rolled.tilesVal (Rolled.words (iblk m c 0 t) (iblk m c 1 t)) (iblk m c 2 t) 32 0 (Rolled.zeroAcc (F := F))

/-- The accumulator after `n` points. -/
def accAt (c : Dev nD) : ℕ → FVec F S96x256 .f32
  | 0 => Rolled.zeroAcc (F := F)
  | n + 1 => addf (accAt c n) (if h : n < cfg0.N then stepAt m c ⟨n, h⟩ else Rolled.zeroAcc (F := F))

/-- The output written from the accumulator after point `t`. -/
def outAt (c : Dev nD) (t : Fin cfg0.N) : FVec F S96x256 .bf16 :=
  Rolled.outOf (accAt m c (t.val + 1)) (Rolled.permHalf (iblk m c 3 t) 0) (Rolled.permHalf (iblk m c 3 t) 1)

/-- The invariant before point `n`: the word buffer at anything, the accumulator at what the points before left (at
    anything before the first), the generator register at some state. -/
def PhiS (c : Dev nD) (n : ℕ) : sProp 𝕄 :=
  iprop((∃ Y, owns (c : Thread nD τ) (Memref.whole cc0_scratch0) fullShare Y)
    ∗ (∃ R, ⌜n ≠ 0 → R = accAt m c n⌝ ∗ owns (c : Thread nD τ) (Memref.whole cc0_scratch1) fullShare R)
    ∗ ∃ r, prngReg c r)

/-- The proof data. -/
def dats (p : Fin 1) (c : Dev nD) : Dat τ (Elt F) Unit ℕ (UR sig nD τ) ℕ (cfgs p) c where
  A w := V m c (Pipeline.arrRef spec0 w)
  after w t := match w with
    | 0 => iblk m c 0 t
    | 1 => iblk m c 1 t
    | 2 => iblk m c 2 t
    | 3 => iblk m c 3 t
    | 4 => outAt m c t
    | ⟨_ + 5, h⟩ => absurd h (Nat.not_lt.2 (Nat.le_add_left _ _))
  Φ t := PhiS m c t.val
  q _ := fullShare
  owed _ := 0

theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = outAt m c t := rfl

/-- The accumulator is cleared at the first point only. -/
theorem isFirst_iff : ∀ t : Fin cfg0.N, isFirst (grid0.coords t) ↔ t.val = 0 := by
  show ∀ t : Fin grid0.N, _
  decide +kernel

/-- The output is written at the last point only. -/
theorem isLast_iff : ∀ t : Fin cfg0.N, k0_cond2 (grid0.coords t) = 1#1 ↔ t.val = 31 := by
  show ∀ t : Fin grid0.N, _
  decide +kernel

/-- What the output's buffer is left at, as the pipeline asks it: at the points that do not write it, as found. -/
def post4 (c : Dev nD) (t : Fin cfg0.N) : sProp 𝕄 :=
  match cfg0.idle 4 (cfg0.grid.coords t) with
  | true =>
    match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

theorem post4_last (c : Dev nD) (t : Fin cfg0.N) (h : t.val = 31) :
    post4 m c t = owns (c : Thread nD τ) (st0_4 t) fullShare (outAt m c t) := by
  have hi : cfg0.idle 4 (cfg0.grid.coords t) = false := by
    show (!(k0_cond2 (grid0.coords t) == 1#1)) = false
    rw [(isLast_iff t).mpr h]; rfl
  unfold post4; rw [hi]; rfl

theorem post4_rest (c : Dev nD) (t : Fin cfg0.N) (h : t.val ≠ 31) :
    post4 m c t = iprop(∃ d, owns (c : Thread nD τ) (st0_4 t) fullShare ((dats m 0 c).before 4 t d)) := by
  have hi : cfg0.idle 4 (cfg0.grid.coords t) = true := by
    show (!(k0_cond2 (grid0.coords t) == 1#1)) = true
    have := mt (isLast_iff t).mp h
    simp [this]
  have ht : t.val < 32 := t.isLt
  have hf : (cfg0.win 4).flush t = false := by
    rw [← Bool.not_eq_true, flush0_4]; omega
  unfold post4; rw [hi, hf]

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ post4 m c t)

/-- One point's accumulator from the last one's. -/
theorem accAt_succ (c : Dev nD) (t : Fin cfg0.N) : accAt m c (t.val + 1) = addf (accAt m c t.val) (stepAt m c t) := by
  rw [accAt, dif_pos t.isLt]

/-- The body past its first conditional, at a point that finds the accumulator at what the points before left. -/
theorem sound_main (c : Dev nD) (t : Fin cfg0.N) (h5 : ((st0_4 t).access Rolled.accR).Stores Finset.univ) :
    iprop((∃ Y, owns (c : Thread nD τ) (Memref.whole cc0_scratch0) fullShare Y)
        ∗ owns (c : Thread nD τ) (Memref.whole cc0_scratch1) fullShare (accAt m c t.val)
        ∗ (∃ r, prngReg c r) ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d)))
      ⊢ (wp frame (wpE (defs₀ (F := F)) Variants.none (c : Thread nD τ) none) Set.univ
          (Rolled.main (st0_0 t) (st0_1 t) (st0_2 t) (st0_3 t) (st0_4 t) (Memref.whole cc0_scratch0) (Memref.whole cc0_scratch1)
            (k0_cond2 (grid0.coords t) = 1#1) h5) fun _ => bodyPost m c t : sProp 𝕄) := by
  unfold bodyPost
  rw [show (dats m 0 c).Φ t.succ = PhiS m c (t.val + 1) from rfl]
  unfold PhiS
  iintro ⟨⟨%Y, H6⟩, H7, HR, HO, ⟨%d0, H1⟩, ⟨%d1, H2⟩, ⟨%d2, H3⟩, ⟨%d3, H4⟩, ⟨%d4, H5⟩⟩
  rw [before0_0_of m (dats m 0 c) rfl (after_0 m c), before0_1_of m (dats m 0 c) rfl (after_1 m c),
    before0_2_of m (dats m 0 c) rfl (after_2 m c), before0_3_of m (dats m 0 c) rfl (after_3 m c)]
  ihave H := (show iprop(owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare ((dats m 0 c).before 4 t d4)
      ∗ owns (c : Thread nD τ) (Memref.whole cc0_scratch0) fullShare Y
      ∗ owns (c : Thread nD τ) (Memref.whole cc0_scratch1) fullShare (accAt m c t.val)) ⊢ (_ : sProp 𝕄) from .rfl) $$ [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iapply (Rolled.wp_main (defs := defs₀ (F := F)) Variants.none c (E := Set.univ) (st0_0 t) (st0_1 t) (st0_2 t) (st0_3 t) (st0_4 t)
    (Memref.whole cc0_scratch0) (Memref.whole cc0_scratch1) (k0_cond2 (grid0.coords t) = 1#1) h5) $$ H
  rw [show Rolled.stepSum (iblk m c 0 t) (iblk m c 1 t) (iblk m c 2 t) Y = stepAt m c t by
    unfold Rolled.stepSum stepAt; rw [Rolled.filled_eq]]
  rw [← accAt_succ]
  iintro ⟨H1, H2, H3, H4, H5, H6, H7⟩
  isplitl [H6 H7 HR]
  · isplitl [H6]; · iexists _; iexact H6
    isplitl [H7]
    · iexists _
      isplitr
      rotate_left
      · iexact H7
      · ipureintro; exact fun _ => rfl
    · iexact HR
  isplitl [HO]; · iexact HO
  isplitl [H1]; · iexact H1
  isplitl [H2]; · iexact H2
  isplitl [H3]; · iexact H3
  isplitl [H4]; · iexact H4
  by_cases hl : t.val = 31
  · rw [post4_last m c t hl, if_pos ((isLast_iff t).mpr hl)]
    iexact H5
  · rw [post4_rest m c t hl, if_neg (mt (isLast_iff t).mp hl)]
    iexists _; iexact H5

/-- The body at every point. -/
theorem sound_body (c : Dev nD) (t : Fin cfg0.N) :
    bodyPre m c t ⊢ (wp frame (wpE (defs₀ (F := F)) Variants.none (c : Thread nD τ) none) Set.univ (bodyAt0 (F := F) t) fun _ => bodyPost m c t : sProp 𝕄) := by
  unfold bodyPre bodyAt0
  by_cases hf : isFirst (grid0.coords t)
  · rw [main_first (h := hf)]
    have h0 := (isFirst_iff t).mp hf
    rw [show (dats m 0 c).Φ t.castSucc = PhiS m c t.val from rfl]
    unfold PhiS
    iintro ⟨⟨H6, ⟨%R, -, H7⟩, HR⟩, HO, H⟩
    iapply (Rolled.wp_clear Variants.none c (Memref.whole cc0_scratch1)) $$ H7
    iintro H7
    iapply (sound_main m c t _)
    isplitl [H6]; · iexact H6
    isplitl [H7]
    · rw [h0]; iexact H7
    isplitl [HR]; · iexact HR
    isplitl [HO]; · iexact HO
    iexact H
  · rw [main_rest (h := hf)]
    have h0 := mt (isFirst_iff t).mpr hf
    rw [show (dats m 0 c).Φ t.castSucc = PhiS m c t.val from rfl]
    unfold PhiS
    iintro ⟨⟨H6, ⟨%R, %hR, H7⟩, HR⟩, HO, H⟩
    rw [hR h0]
    iapply (sound_main m c t _)
    isplitl [H6]; · iexact H6
    isplitl [H7]; · iexact H7
    isplitl [HR]; · iexact HR
    isplitl [HO]; · iexact HO
    iexact H

/-- The body table's row. -/
theorem defs₀_row (t : Fin cfg0.N) : defs₀ (F := F) .tc cfg0.body (cfg0.bodyArgs t (cfg0.slots t)) = bodyAt0 t := by
  unfold defs₀; rw [Defs.onTc_tc]

/-- The body obligation. -/
theorem body_obligation (c : Dev nD) : Pipeline.BodyObligationLoose (dats m 0 c) (defs₀ (F := F)) Variants.none () Set.univ := by
  intro t
  rw [bigSep_W0, bigSep_W0, defs₀_row]
  exact triple_restated (sound_body m c t) rfl .rfl fun _ => .rfl

theorem hin (c : Dev nD) : Pipeline.ΦA spec0 c ⊢ (dats m 0 c).Φ 0 := by
  show _ ⊢ PhiS m c 0
  unfold Pipeline.ΦA PhiS
  rw [scopedRest0_eq]
  iintro ⟨⟨⟨%f, H6⟩, %g, H7⟩, HR⟩
  isplitl [H6]; · iexists f; rw [owns_whole]; iexact H6
  isplitl [H7]
  · iexists g
    isplitr
    · ipureintro; exact fun h => absurd rfl h
    · rw [owns_whole]; iexact H7
  · iexact HR

theorem hout (c : Dev nD) : (dats m 0 c).Φ (Fin.last cfg0.N) ⊢ Pipeline.ΦA spec0 c := by
  show PhiS m c _ ⊢ _
  unfold Pipeline.ΦA PhiS
  rw [scopedRest0_eq]
  iintro ⟨⟨%f, H6⟩, ⟨%g, -, H7⟩, HR⟩
  isplitl [H6 H7]
  · isplitl [H6]
    · iexists f; rw [← owns_whole]; iexact H6
    · iexists g; rw [← owns_whole]; iexact H7
  · iexact HR

/-- The run: every execution ends with the arrays as the proof data say and every counter at zero. -/
theorem run (ρ : Dev nD → PrngReg) :
    θ_run defs (onTc (τ := τ) (main (F := F))) (s₀ m ρ)
      (fun r => Pipeline.FramePost cfgs (dats m) 0 (V m) r ∧ r.2.sem = fun _ => 0) :=
  Pipeline.θ_run_frame_track cfgs (dats m) 0 launch0 defs₀ Variants.none m ρ main
    (hbody := fun c => body_obligation m c) (hshare := fun c w => by unfold Dat.share; split <;> rfl) (howed := fun _ _ => rfl)
    (V := V m) (hmain := hmain m Variants.none) (hA := fun _ _ => rfl) (hin := hin m) (hout := hout m)
    (Q' := _) (hQ' := fun _ h => h)

end Cert.Kernel.Run
-- ==== Proof.KernelIdeal.Body.lean ====
/-
  The printed kernel's body is the rolled one, at the first grid point (which clears the accumulator) and at the others.
-/
module

public import proofs.«01_k».proof.KernelIdeal
public import proofs.«01_k».proof.Proof.Rolled
public import Idealize.ShloMosaic.Lib.Pipeline.Regions

@[expose] public section

noncomputable section

namespace Cert.KernelIdeal

open Idealize.ShloMosaic Idealize.SL.Sem
open Cert.Proof

variable {F : FTy → Type} [FloatOps F] [Facts]

/-- The condition under which the accumulator is cleared. -/
abbrev isFirst (i : grid0.Coords) : Prop :=
  Scalar.cmpi .ne (Scalar.extui (Scalar.cmpi .eq (BitVec.ofNat 32 (i 0).val) 0#32)) 0#32 = 1#1

variable (i : grid0.Coords) (arg1 : Memref sig .tc .vmem S2x2x128x128 .i32) (harg1 : arg1.IsWhole) (arg2 : Memref sig .tc .vmem S1x2x128x128 .i32) (harg2 : arg2.IsWhole) (arg3 : Memref sig .tc .vmem S96x8192 .bf16) (harg3 : arg3.IsWhole) (arg4 : Memref sig .tc .vmem S2x128 .i32) (harg4 : arg4.IsWhole) (arg5 : Memref sig .tc .vmem S96x256 .bf16) (harg5 : arg5.IsWhole) (arg6 : Memref sig .tc .vmem S3x2x2x128x128 .i32) (harg6 : arg6.IsWhole) (arg7 : Memref sig .tc .vmem S96x256 .f32) (harg7 : arg7.IsWhole)

/-- The body's first stretch with its conditional taken: the accumulator cleared and the first two tables stored. -/
theorem part1_first (h : isFirst i) :
    k0_part1 (F := F) i arg1 harg1 arg2 harg2 arg3 harg3 arg4 harg4 arg5 harg5 arg6 harg6 arg7 harg7 =
      Rolled.clear arg7 (
        Rolled.ld arg1 (Rolled.denR 0 0).toLoadRect Rolled.numel_S1x1x128x128 fun v => Rolled.putWords arg6 0 0 v <|
        Rolled.ld arg1 (Rolled.denR 0 1).toLoadRect Rolled.numel_S1x1x128x128 fun v => Rolled.putWords arg6 0 1 v <|
        .ret (BitVec.ofNat 32 (i 0).val)) := by
  unfold k0_part1
  dsimp only
  rw [dif_pos h]
  chain_rfl

/-- The same with its conditional not taken. -/
theorem part1_rest (h : ¬ isFirst i) :
    k0_part1 (F := F) i arg1 harg1 arg2 harg2 arg3 harg3 arg4 harg4 arg5 harg5 arg6 harg6 arg7 harg7 =
      Rolled.ld arg1 (Rolled.denR 0 0).toLoadRect Rolled.numel_S1x1x128x128 fun v => Rolled.putWords arg6 0 0 v <|
        Rolled.ld arg1 (Rolled.denR 0 1).toLoadRect Rolled.numel_S1x1x128x128 fun v => Rolled.putWords arg6 0 1 v <|
        .ret (BitVec.ofNat 32 (i 0).val) := by
  unfold k0_part1
  dsimp only
  rw [dif_neg h]
  chain_rfl

include harg5 in
/-- The output's store is of whole words. -/
theorem stores_out : (arg5.access Rolled.accR).Stores Finset.univ :=
  View.stores_vmem Rolled.numel_S96x256 (harg5.storeExact_slice rfl _ Shapes2.Facts₀.packedbf16_S96x256_S96x256_0_0) (fun _ => rfl)

set_option maxRecDepth 100000 in
/-- The body at a point where the accumulator is cleared. -/
theorem main_first (h : isFirst i) :
    cc0_tc_main (F := F) i arg1 harg1 arg2 harg2 arg3 harg3 arg4 harg4 arg5 harg5 arg6 harg6 arg7 harg7 =
      Rolled.clear arg7 (Rolled.main arg1 arg2 arg3 arg4 arg5 arg6 arg7 (k0_cond2 i = 1#1) (stores_out arg5 harg5)) := by
  unfold cc0_tc_main k0_part295
  rw [part1_first (h := h)]
  chain_rfl

set_option maxRecDepth 100000 in
/-- The body at the other points. -/
theorem main_rest (h : ¬ isFirst i) :
    cc0_tc_main (F := F) i arg1 harg1 arg2 harg2 arg3 harg3 arg4 harg4 arg5 harg5 arg6 harg6 arg7 harg7 =
      Rolled.main arg1 arg2 arg3 arg4 arg5 arg6 arg7 (k0_cond2 i = 1#1) (stores_out arg5 harg5) := by
  unfold cc0_tc_main k0_part295
  rw [part1_rest (h := h)]
  chain_rfl

end Cert.KernelIdeal
-- ==== Proof.KernelIdeal.Run.lean ====
/-
  The run of the kernel: what each grid point finds and leaves — the accumulator carried from point to point, the word
  buffer at anything, the inputs' blocks as staged and the output written at the last point — and the program's final
  memory read off it.
-/
module

public import proofs.«01_k».proof.Proof.KernelIdeal.Body
public import proofs.«01_k».proof.Proof.RolledWords
public import proofs.«01_k».proof.Proof.Gen.KernelIdeal.Frame
public import Idealize.ShloMosaic.Lib.Pipeline.Value

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Proof

variable {F : FTy → Type} [FloatOps F]

local notation "𝕄" => MT nD τ sig Unit (Elt F) ℕ (UR sig nD τ) ℕ

variable (m : (ℓ : Loc nD τ sig) → Buf (Elt F) ℓ)

/-- The step's sum at point `t`, from the staged blocks. -/
def stepAt (c : Dev nD) (t : Fin cfg0.N) : FVec F S96x256 .f32 :=
  Rolled.tilesVal (Rolled.words (iblk m c 0 t) (iblk m c 1 t)) (iblk m c 2 t) 32 0 (Rolled.zeroAcc (F := F))

/-- The accumulator after `n` points. -/
def accAt (c : Dev nD) : ℕ → FVec F S96x256 .f32
  | 0 => Rolled.zeroAcc (F := F)
  | n + 1 => addf (accAt c n) (if h : n < cfg0.N then stepAt m c ⟨n, h⟩ else Rolled.zeroAcc (F := F))

/-- The output written from the accumulator after point `t`. -/
def outAt (c : Dev nD) (t : Fin cfg0.N) : FVec F S96x256 .bf16 :=
  Rolled.outOf (accAt m c (t.val + 1)) (Rolled.permHalf (iblk m c 3 t) 0) (Rolled.permHalf (iblk m c 3 t) 1)

/-- The invariant before point `n`: the word buffer at anything, the accumulator at what the points before left (at
    anything before the first), the generator register at some state. -/
def PhiS (c : Dev nD) (n : ℕ) : sProp 𝕄 :=
  iprop((∃ Y, owns (c : Thread nD τ) (Memref.whole cc0_scratch0) fullShare Y)
    ∗ (∃ R, ⌜n ≠ 0 → R = accAt m c n⌝ ∗ owns (c : Thread nD τ) (Memref.whole cc0_scratch1) fullShare R)
    ∗ ∃ r, prngReg c r)

/-- The proof data. -/
def dats (p : Fin 1) (c : Dev nD) : Dat τ (Elt F) Unit ℕ (UR sig nD τ) ℕ (cfgs p) c where
  A w := V m c (Pipeline.arrRef spec0 w)
  after w t := match w with
    | 0 => iblk m c 0 t
    | 1 => iblk m c 1 t
    | 2 => iblk m c 2 t
    | 3 => iblk m c 3 t
    | 4 => outAt m c t
    | ⟨_ + 5, h⟩ => absurd h (Nat.not_lt.2 (Nat.le_add_left _ _))
  Φ t := PhiS m c t.val
  q _ := fullShare
  owed _ := 0

theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = outAt m c t := rfl

/-- The accumulator is cleared at the first point only. -/
theorem isFirst_iff : ∀ t : Fin cfg0.N, isFirst (grid0.coords t) ↔ t.val = 0 := by
  show ∀ t : Fin grid0.N, _
  decide +kernel

/-- The output is written at the last point only. -/
theorem isLast_iff : ∀ t : Fin cfg0.N, k0_cond2 (grid0.coords t) = 1#1 ↔ t.val = 31 := by
  show ∀ t : Fin grid0.N, _
  decide +kernel

/-- What the output's buffer is left at, as the pipeline asks it: at the points that do not write it, as found. -/
def post4 (c : Dev nD) (t : Fin cfg0.N) : sProp 𝕄 :=
  match cfg0.idle 4 (cfg0.grid.coords t) with
  | true =>
    match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

theorem post4_last (c : Dev nD) (t : Fin cfg0.N) (h : t.val = 31) :
    post4 m c t = owns (c : Thread nD τ) (st0_4 t) fullShare (outAt m c t) := by
  have hi : cfg0.idle 4 (cfg0.grid.coords t) = false := by
    show (!(k0_cond2 (grid0.coords t) == 1#1)) = false
    rw [(isLast_iff t).mpr h]; rfl
  unfold post4; rw [hi]; rfl

theorem post4_rest (c : Dev nD) (t : Fin cfg0.N) (h : t.val ≠ 31) :
    post4 m c t = iprop(∃ d, owns (c : Thread nD τ) (st0_4 t) fullShare ((dats m 0 c).before 4 t d)) := by
  have hi : cfg0.idle 4 (cfg0.grid.coords t) = true := by
    show (!(k0_cond2 (grid0.coords t) == 1#1)) = true
    have := mt (isLast_iff t).mp h
    simp [this]
  have ht : t.val < 32 := t.isLt
  have hf : (cfg0.win 4).flush t = false := by
    rw [← Bool.not_eq_true, flush0_4]; omega
  unfold post4; rw [hi, hf]

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ post4 m c t)

/-- One point's accumulator from the last one's. -/
theorem accAt_succ (c : Dev nD) (t : Fin cfg0.N) : accAt m c (t.val + 1) = addf (accAt m c t.val) (stepAt m c t) := by
  rw [accAt, dif_pos t.isLt]

/-- The body past its first conditional, at a point that finds the accumulator at what the points before left. -/
theorem sound_main (c : Dev nD) (t : Fin cfg0.N) (h5 : ((st0_4 t).access Rolled.accR).Stores Finset.univ) :
    iprop((∃ Y, owns (c : Thread nD τ) (Memref.whole cc0_scratch0) fullShare Y)
        ∗ owns (c : Thread nD τ) (Memref.whole cc0_scratch1) fullShare (accAt m c t.val)
        ∗ (∃ r, prngReg c r) ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d)))
      ⊢ (wp frame (wpE (defs₀ (F := F)) Variants.none (c : Thread nD τ) none) Set.univ
          (Rolled.main (st0_0 t) (st0_1 t) (st0_2 t) (st0_3 t) (st0_4 t) (Memref.whole cc0_scratch0) (Memref.whole cc0_scratch1)
            (k0_cond2 (grid0.coords t) = 1#1) h5) fun _ => bodyPost m c t : sProp 𝕄) := by
  unfold bodyPost
  rw [show (dats m 0 c).Φ t.succ = PhiS m c (t.val + 1) from rfl]
  unfold PhiS
  iintro ⟨⟨%Y, H6⟩, H7, HR, HO, ⟨%d0, H1⟩, ⟨%d1, H2⟩, ⟨%d2, H3⟩, ⟨%d3, H4⟩, ⟨%d4, H5⟩⟩
  rw [before0_0_of m (dats m 0 c) rfl (after_0 m c), before0_1_of m (dats m 0 c) rfl (after_1 m c),
    before0_2_of m (dats m 0 c) rfl (after_2 m c), before0_3_of m (dats m 0 c) rfl (after_3 m c)]
  ihave H := (show iprop(owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare ((dats m 0 c).before 4 t d4)
      ∗ owns (c : Thread nD τ) (Memref.whole cc0_scratch0) fullShare Y
      ∗ owns (c : Thread nD τ) (Memref.whole cc0_scratch1) fullShare (accAt m c t.val)) ⊢ (_ : sProp 𝕄) from .rfl) $$ [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iapply (Rolled.wp_main (defs := defs₀ (F := F)) Variants.none c (E := Set.univ) (st0_0 t) (st0_1 t) (st0_2 t) (st0_3 t) (st0_4 t)
    (Memref.whole cc0_scratch0) (Memref.whole cc0_scratch1) (k0_cond2 (grid0.coords t) = 1#1) h5) $$ H
  rw [show Rolled.stepSum (iblk m c 0 t) (iblk m c 1 t) (iblk m c 2 t) Y = stepAt m c t by
    unfold Rolled.stepSum stepAt; rw [Rolled.filled_eq]]
  rw [← accAt_succ]
  iintro ⟨H1, H2, H3, H4, H5, H6, H7⟩
  isplitl [H6 H7 HR]
  · isplitl [H6]; · iexists _; iexact H6
    isplitl [H7]
    · iexists _
      isplitr
      rotate_left
      · iexact H7
      · ipureintro; exact fun _ => rfl
    · iexact HR
  isplitl [HO]; · iexact HO
  isplitl [H1]; · iexact H1
  isplitl [H2]; · iexact H2
  isplitl [H3]; · iexact H3
  isplitl [H4]; · iexact H4
  by_cases hl : t.val = 31
  · rw [post4_last m c t hl, if_pos ((isLast_iff t).mpr hl)]
    iexact H5
  · rw [post4_rest m c t hl, if_neg (mt (isLast_iff t).mp hl)]
    iexists _; iexact H5

/-- The body at every point. -/
theorem sound_body (c : Dev nD) (t : Fin cfg0.N) :
    bodyPre m c t ⊢ (wp frame (wpE (defs₀ (F := F)) Variants.none (c : Thread nD τ) none) Set.univ (bodyAt0 (F := F) t) fun _ => bodyPost m c t : sProp 𝕄) := by
  unfold bodyPre bodyAt0
  by_cases hf : isFirst (grid0.coords t)
  · rw [main_first (h := hf)]
    have h0 := (isFirst_iff t).mp hf
    rw [show (dats m 0 c).Φ t.castSucc = PhiS m c t.val from rfl]
    unfold PhiS
    iintro ⟨⟨H6, ⟨%R, -, H7⟩, HR⟩, HO, H⟩
    iapply (Rolled.wp_clear Variants.none c (Memref.whole cc0_scratch1)) $$ H7
    iintro H7
    iapply (sound_main m c t _)
    isplitl [H6]; · iexact H6
    isplitl [H7]
    · rw [h0]; iexact H7
    isplitl [HR]; · iexact HR
    isplitl [HO]; · iexact HO
    iexact H
  · rw [main_rest (h := hf)]
    have h0 := mt (isFirst_iff t).mpr hf
    rw [show (dats m 0 c).Φ t.castSucc = PhiS m c t.val from rfl]
    unfold PhiS
    iintro ⟨⟨H6, ⟨%R, %hR, H7⟩, HR⟩, HO, H⟩
    rw [hR h0]
    iapply (sound_main m c t _)
    isplitl [H6]; · iexact H6
    isplitl [H7]; · iexact H7
    isplitl [HR]; · iexact HR
    isplitl [HO]; · iexact HO
    iexact H

/-- The body table's row. -/
theorem defs₀_row (t : Fin cfg0.N) : defs₀ (F := F) .tc cfg0.body (cfg0.bodyArgs t (cfg0.slots t)) = bodyAt0 t := by
  unfold defs₀; rw [Defs.onTc_tc]

/-- The body obligation. -/
theorem body_obligation (c : Dev nD) : Pipeline.BodyObligationLoose (dats m 0 c) (defs₀ (F := F)) Variants.none () Set.univ := by
  intro t
  rw [bigSep_W0, bigSep_W0, defs₀_row]
  exact triple_restated (sound_body m c t) rfl .rfl fun _ => .rfl

theorem hin (c : Dev nD) : Pipeline.ΦA spec0 c ⊢ (dats m 0 c).Φ 0 := by
  show _ ⊢ PhiS m c 0
  unfold Pipeline.ΦA PhiS
  rw [scopedRest0_eq]
  iintro ⟨⟨⟨%f, H6⟩, %g, H7⟩, HR⟩
  isplitl [H6]; · iexists f; rw [owns_whole]; iexact H6
  isplitl [H7]
  · iexists g
    isplitr
    · ipureintro; exact fun h => absurd rfl h
    · rw [owns_whole]; iexact H7
  · iexact HR

theorem hout (c : Dev nD) : (dats m 0 c).Φ (Fin.last cfg0.N) ⊢ Pipeline.ΦA spec0 c := by
  show PhiS m c _ ⊢ _
  unfold Pipeline.ΦA PhiS
  rw [scopedRest0_eq]
  iintro ⟨⟨%f, H6⟩, ⟨%g, -, H7⟩, HR⟩
  isplitl [H6 H7]
  · isplitl [H6]
    · iexists f; rw [← owns_whole]; iexact H6
    · iexists g; rw [← owns_whole]; iexact H7
  · iexact HR

/-- The run: every execution ends with the arrays as the proof data say and every counter at zero. -/
theorem run (ρ : Dev nD → PrngReg) :
    θ_run defs (onTc (τ := τ) (main (F := F))) (s₀ m ρ)
      (fun r => Pipeline.FramePost cfgs (dats m) 0 (V m) r ∧ r.2.sem = fun _ => 0) :=
  Pipeline.θ_run_frame_track cfgs (dats m) 0 launch0 defs₀ Variants.none m ρ main
    (hbody := fun c => body_obligation m c) (hshare := fun c w => by unfold Dat.share; split <;> rfl) (howed := fun _ _ => rfl)
    (V := V m) (hmain := hmain m Variants.none) (hA := fun _ _ => rfl) (hin := hin m) (hout := hout m)
    (Q' := _) (hQ' := fun _ h => h)

end Cert.KernelIdeal.Run
-- ==== Proof.Ref.lean ====
/-
  The run of the reference: its operations in order, in three stretches (the dense table's entries, the sparse table's
  entries, the weighted sum), and the program's final memory read off them.
-/
module

public import proofs.«01_k».proof.Proof.Gen.ReferenceIdeal
public import Idealize.ShloMosaic.Lib.StableHlo.Run

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- @main's operations that compute the dense table's entries. -/
abbrev denseOps : List (HloOp τ sig (Elt F)) :=
  [ reshape main_arg3 main_v0 (rfl : (.i32 : EltTy) = .i32) shapeCasts_S256_S2x2x64,
    unary main_v0 main_v1 ((extractStridedSlice S2x1x64 ![0, 0, 0] · slices_S2x2x64_S2x1x64_0_0_0) : (⟨S2x2x64, .i32⟩ : BufTy).Contents (Elt F) → (⟨S2x1x64, .i32⟩ : BufTy).Contents (Elt F)),
    reshape main_v1 main_v2 (rfl : (.i32 : EltTy) = .i32) shapeCasts_S2x1x64_S2x64,
    reshape main_v2 main_v3 (rfl : (.i32 : EltTy) = .i32) shapeCasts_S2x64_S128,
    unary main_arg1 main_v4 ((transpose S2x64x128x128 [1, 0, 3, 2] · transposes_S64x2x128x128_S2x64x128x128_1_0_3_2) : (⟨S64x2x128x128, .i32⟩ : BufTy).Contents (Elt F) → (⟨S2x64x128x128, .i32⟩ : BufTy).Contents (Elt F)),
    reshape main_v4 main_v5 (rfl : (.i32 : EltTy) = .i32) shapeCasts_S2x64x128x128_S2x8192x128,
    nullary main_c (constantI S_ 32 65535#32),
    unary main_c main_v6 (broadcastInDim S2x8192x128 ![] bcast_S_S2x8192x128 : (⟨S_, .i32⟩ : BufTy).Contents (Elt F) → (⟨S2x8192x128, .i32⟩ : BufTy).Contents (Elt F)),
    binary main_v5 main_v6 main_v7 (andi : (⟨S2x8192x128, .i32⟩ : BufTy).Contents (Elt F) → (⟨S2x8192x128, .i32⟩ : BufTy).Contents (Elt F) → (⟨S2x8192x128, .i32⟩ : BufTy).Contents (Elt F)),
    nullary main_v8 (iotaInDim S8192 32 0),
    nullary main_c_0 (constantI S_ 32 32#32),
    unary main_c_0 main_v9 (broadcastInDim S8192 ![] bcast_S_S8192 : (⟨S_, .i32⟩ : BufTy).Contents (Elt F) → (⟨S8192, .i32⟩ : BufTy).Contents (Elt F)),
    binary main_v8 main_v9 main_v10 (muli : (⟨S8192, .i32⟩ : BufTy).Contents (Elt F) → (⟨S8192, .i32⟩ : BufTy).Contents (Elt F) → (⟨S8192, .i32⟩ : BufTy).Contents (Elt F)),
    unary main_v10 main_v11 (broadcastInDim S1x8192x1 ![1] bcast_S8192_S1x8192x1_1 : (⟨S8192, .i32⟩ : BufTy).Contents (Elt F) → (⟨S1x8192x1, .i32⟩ : BufTy).Contents (Elt F)),
    nullary main_c_1 (constantI S_ 32 64#32),
    TRef.unary (.of main_c_1) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S1x8192x1 ![] bcast_S_S1x8192x1),
    TRef.binary (.of main_v11) main_call0.v3 main_call0.v4 Host.remsi,
    TRef.nullary main_call0.c_1 (constantI S_ 32 0#32),
    TRef.unary main_call0.c_1 main_call0.v5 (broadcastInDim S1x8192x1 ![] bcast_S_S1x8192x1),
    TRef.binary main_call0.v4 main_call0.v5 main_call0.v6 (cmpi .ne),
    TRef.nullary main_call0.c_2 (constantI S_ 32 0#32),
    TRef.unary main_call0.c_2 main_call0.v7 (broadcastInDim S1x8192x1 ![] bcast_S_S1x8192x1),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S1x8192x1 ![] bcast_S_S1x8192x1),
    TRef.binary main_call0.v8 main_call0.v10 main_call0.v11 (cmpi .ne),
    TRef.binary main_call0.v11 main_call0.v6 main_call0.v12 andi,
    TRef.unary main_call0.call0.v0 main_call0.v13 (broadcastInDim S1x8192x1 ![] bcast_S_S1x8192x1),
    TRef.binary main_call0.v4 main_call0.v13 main_call0.v14 addi,
    TRef.ternary main_call0.v12 main_call0.v14 main_call0.v4 main_call0.v15 select,
    unary main_v12 main_v13 (broadcastInDim S2x8192x128 ![0, 1, 2] bcast_S1x8192x1_S2x8192x128_0_1_2 : (⟨S1x8192x1, .i32⟩ : BufTy).Contents (Elt F) → (⟨S2x8192x128, .i32⟩ : BufTy).Contents (Elt F)),
    binary main_v7 main_v13 main_v14 (subi : (⟨S2x8192x128, .i32⟩ : BufTy).Contents (Elt F) → (⟨S2x8192x128, .i32⟩ : BufTy).Contents (Elt F) → (⟨S2x8192x128, .i32⟩ : BufTy).Contents (Elt F)),
    nullary main_c_2 (constantI S_ 32 0#32),
    unary main_c_2 main_v15 (broadcastInDim S2x8192x128 ![] bcast_S_S2x8192x128 : (⟨S_, .i32⟩ : BufTy).Contents (Elt F) → (⟨S2x8192x128, .i32⟩ : BufTy).Contents (Elt F)),
    binary main_v14 main_v15 main_v16 (cmpi .sge : (⟨S2x8192x128, .i32⟩ : BufTy).Contents (Elt F) → (⟨S2x8192x128, .i32⟩ : BufTy).Contents (Elt F) → (⟨S2x8192x128, .i1⟩ : BufTy).Contents (Elt F)),
    nullary main_c_3 (constantI S_ 32 32#32),
    unary main_c_3 main_v17 (broadcastInDim S2x8192x128 ![] bcast_S_S2x8192x128 : (⟨S_, .i32⟩ : BufTy).Contents (Elt F) → (⟨S2x8192x128, .i32⟩ : BufTy).Contents (Elt F)),
    binary main_v14 main_v17 main_v18 (cmpi .slt : (⟨S2x8192x128, .i32⟩ : BufTy).Contents (Elt F) → (⟨S2x8192x128, .i32⟩ : BufTy).Contents (Elt F) → (⟨S2x8192x128, .i1⟩ : BufTy).Contents (Elt F)),
    binary main_v16 main_v18 main_v19 (andi : (⟨S2x8192x128, .i1⟩ : BufTy).Contents (Elt F) → (⟨S2x8192x128, .i1⟩ : BufTy).Contents (Elt F) → (⟨S2x8192x128, .i1⟩ : BufTy).Contents (Elt F)),
    nullary main_c_4 (constantI S_ 1 1#1),
    unary main_c_4 main_v20 (broadcastInDim S8192x128 ![] bcast_S_S8192x128 : (⟨S_, .i1⟩ : BufTy).Contents (Elt F) → (⟨S8192x128, .i1⟩ : BufTy).Contents (Elt F)),
    unary main_v7 main_v21 ((extractStridedSlice S1x8192x128 ![1, 0, 0] · slices_S2x8192x128_S1x8192x128_1_0_0) : (⟨S2x8192x128, .i32⟩ : BufTy).Contents (Elt F) → (⟨S1x8192x128, .i32⟩ : BufTy).Contents (Elt F)),
    reshape main_v21 main_v22 (rfl : (.i32 : EltTy) = .i32) shapeCasts_S1x8192x128_S8192x128,
    unary main_v7 main_v23 ((extractStridedSlice S1x8192x128 ![0, 0, 0] · slices_S2x8192x128_S1x8192x128_0_0_0) : (⟨S2x8192x128, .i32⟩ : BufTy).Contents (Elt F) → (⟨S1x8192x128, .i32⟩ : BufTy).Contents (Elt F)),
    reshape main_v23 main_v24 (rfl : (.i32 : EltTy) = .i32) shapeCasts_S1x8192x128_S8192x128,
    binary main_v22 main_v24 main_v25 (cmpi .ne : (⟨S8192x128, .i32⟩ : BufTy).Contents (Elt F) → (⟨S8192x128, .i32⟩ : BufTy).Contents (Elt F) → (⟨S8192x128, .i1⟩ : BufTy).Contents (Elt F)),
    unary main_v20 main_v26 (broadcastInDim S1x8192x128 ![1, 2] bcast_S8192x128_S1x8192x128_1_2 : (⟨S8192x128, .i1⟩ : BufTy).Contents (Elt F) → (⟨S1x8192x128, .i1⟩ : BufTy).Contents (Elt F)),
    unary main_v25 main_v27 (broadcastInDim S1x8192x128 ![1, 2] bcast_S8192x128_S1x8192x128_1_2 : (⟨S8192x128, .i1⟩ : BufTy).Contents (Elt F) → (⟨S1x8192x128, .i1⟩ : BufTy).Contents (Elt F)),
    binary main_v26 main_v27 main_v28 ((fun a b => concatenate S2x8192x128 0 [⟨S1x8192x128, a⟩, ⟨S1x8192x128, b⟩] concatenates_S1x8192x128_S1x8192x128_S2x8192x128_d0) : (⟨S1x8192x128, .i1⟩ : BufTy).Contents (Elt F) → (⟨S1x8192x128, .i1⟩ : BufTy).Contents (Elt F) → (⟨S2x8192x128, .i1⟩ : BufTy).Contents (Elt F)),
    binary main_v19 main_v28 main_v29 (andi : (⟨S2x8192x128, .i1⟩ : BufTy).Contents (Elt F) → (⟨S2x8192x128, .i1⟩ : BufTy).Contents (Elt F) → (⟨S2x8192x128, .i1⟩ : BufTy).Contents (Elt F)),
    unary main_v11 main_v30 (broadcastInDim S2x8192x128 ![0, 1, 2] bcast_S1x8192x1_S2x8192x128_0_1_2 : (⟨S1x8192x1, .i32⟩ : BufTy).Contents (Elt F) → (⟨S2x8192x128, .i32⟩ : BufTy).Contents (Elt F)),
    binary main_v30 main_v14 main_v31 (addi : (⟨S2x8192x128, .i32⟩ : BufTy).Contents (Elt F) → (⟨S2x8192x128, .i32⟩ : BufTy).Contents (Elt F) → (⟨S2x8192x128, .i32⟩ : BufTy).Contents (Elt F)),
    nullary main_c_5 (constantI S_ 32 0#32),
    TRef.unary (.of main_c_5) main_call1.v0 id,
    TRef.unary main_call1.v0 main_call1.v1 (broadcastInDim S2x8192x128 ![] bcast_S_S2x8192x128),
    TRef.ternary (.of main_v29) (.of main_v31) main_call1.v1 main_call1.v2 select,
    unary main_v5 main_v33 (bitcastToFloat .f32 : (⟨S2x8192x128, .i32⟩ : BufTy).Contents (Elt F) → (⟨S2x8192x128, .f32⟩ : BufTy).Contents (Elt F)),
    nullary main_cst (constant S_ .f32 0x00000000#32),
    TRef.unary (.of main_cst) main_call2.v0 id,
    TRef.unary main_call2.v0 main_call2.v1 (broadcastInDim S2x8192x128 ![] bcast_S_S2x8192x128),
    TRef.ternary (.of main_v29) (.of main_v33) main_call2.v1 main_call2.v2 select,
    unary main_v34 main_v35 ((truncf .bf16 · bitsLt_bf16_f32) : (⟨S2x8192x128, .f32⟩ : BufTy).Contents (Elt F) → (⟨S2x8192x128, .bf16⟩ : BufTy).Contents (Elt F)),
    unary main_v3 main_v36 (broadcastInDim S2x8192x128 ![2] bcast_S128_S2x8192x128_2 : (⟨S128, .i32⟩ : BufTy).Contents (Elt F) → (⟨S2x8192x128, .i32⟩ : BufTy).Contents (Elt F)),
    reshape main_v32 main_v37 (rfl : (.i32 : EltTy) = .i32) shapeCasts_S2x8192x128_S2097152,
    reshape main_v35 main_v38 (rfl : (.bf16 : EltTy) = .bf16) shapeCasts_S2x8192x128_S2097152,
    reshape main_v36 main_v39 (rfl : (.i32 : EltTy) = .i32) shapeCasts_S2x8192x128_S2097152 ]

/-- @main's operations that compute the sparse table's entries. -/
abbrev sparseOps : List (HloOp τ sig (Elt F)) :=
  [ unary main_v0 main_v40 ((extractStridedSlice S2x1x64 ![0, 1, 0] · slices_S2x2x64_S2x1x64_0_1_0) : (⟨S2x2x64, .i32⟩ : BufTy).Contents (Elt F) → (⟨S2x1x64, .i32⟩ : BufTy).Contents (Elt F)),
    reshape main_v40 main_v41 (rfl : (.i32 : EltTy) = .i32) shapeCasts_S2x1x64_S2x64,
    reshape main_v41 main_v42 (rfl : (.i32 : EltTy) = .i32) shapeCasts_S2x64_S128,
    unary main_arg2 main_v43 ((transpose S2x32x128x128 [1, 0, 3, 2] · transposes_S32x2x128x128_S2x32x128x128_1_0_3_2) : (⟨S32x2x128x128, .i32⟩ : BufTy).Contents (Elt F) → (⟨S2x32x128x128, .i32⟩ : BufTy).Contents (Elt F)),
    reshape main_v43 main_v44 (rfl : (.i32 : EltTy) = .i32) shapeCasts_S2x32x128x128_S2x4096x128,
    nullary main_c_6 (constantI S_ 32 65535#32),
    unary main_c_6 main_v45 (broadcastInDim S2x4096x128 ![] bcast_S_S2x4096x128 : (⟨S_, .i32⟩ : BufTy).Contents (Elt F) → (⟨S2x4096x128, .i32⟩ : BufTy).Contents (Elt F)),
    binary main_v44 main_v45 main_v46 (andi : (⟨S2x4096x128, .i32⟩ : BufTy).Contents (Elt F) → (⟨S2x4096x128, .i32⟩ : BufTy).Contents (Elt F) → (⟨S2x4096x128, .i32⟩ : BufTy).Contents (Elt F)),
    nullary main_v47 (iotaInDim S4096 32 0),
    nullary main_c_7 (constantI S_ 32 64#32),
    unary main_c_7 main_v48 (broadcastInDim S4096 ![] bcast_S_S4096 : (⟨S_, .i32⟩ : BufTy).Contents (Elt F) → (⟨S4096, .i32⟩ : BufTy).Contents (Elt F)),
    binary main_v47 main_v48 main_v49 (muli : (⟨S4096, .i32⟩ : BufTy).Contents (Elt F) → (⟨S4096, .i32⟩ : BufTy).Contents (Elt F) → (⟨S4096, .i32⟩ : BufTy).Contents (Elt F)),
    unary main_v49 main_v50 (broadcastInDim S1x4096x1 ![1] bcast_S4096_S1x4096x1_1 : (⟨S4096, .i32⟩ : BufTy).Contents (Elt F) → (⟨S1x4096x1, .i32⟩ : BufTy).Contents (Elt F)),
    nullary main_c_8 (constantI S_ 32 64#32),
    TRef.unary (.of main_c_8) main_call3.v0 id,
    TRef.nullary main_call3.c (constantI S_ 32 0#32),
    TRef.binary main_call3.v0 main_call3.c main_call3.v1 (cmpi .eq),
    TRef.nullary main_call3.c_0 (constantI S_ 32 1#32),
    TRef.ternary main_call3.v1 main_call3.c_0 main_call3.v0 main_call3.call0.v0 select,
    TRef.unary main_call3.call0.v0 main_call3.v3 (broadcastInDim S1x4096x1 ![] bcast_S_S1x4096x1),
    TRef.binary (.of main_v50) main_call3.v3 main_call3.v4 Host.remsi,
    TRef.nullary main_call3.c_1 (constantI S_ 32 0#32),
    TRef.unary main_call3.c_1 main_call3.v5 (broadcastInDim S1x4096x1 ![] bcast_S_S1x4096x1),
    TRef.binary main_call3.v4 main_call3.v5 main_call3.v6 (cmpi .ne),
    TRef.nullary main_call3.c_2 (constantI S_ 32 0#32),
    TRef.unary main_call3.c_2 main_call3.v7 (broadcastInDim S1x4096x1 ![] bcast_S_S1x4096x1),
    TRef.binary main_call3.v4 main_call3.v7 main_call3.v8 (cmpi .slt),
    TRef.nullary main_call3.c_3 (constantI S_ 32 0#32),
    TRef.binary main_call3.call0.v0 main_call3.c_3 main_call3.v9 (cmpi .slt),
    TRef.unary main_call3.v9 main_call3.v10 (broadcastInDim S1x4096x1 ![] bcast_S_S1x4096x1),
    TRef.binary main_call3.v8 main_call3.v10 main_call3.v11 (cmpi .ne),
    TRef.binary main_call3.v11 main_call3.v6 main_call3.v12 andi,
    TRef.unary main_call3.call0.v0 main_call3.v13 (broadcastInDim S1x4096x1 ![] bcast_S_S1x4096x1),
    TRef.binary main_call3.v4 main_call3.v13 main_call3.v14 addi,
    TRef.ternary main_call3.v12 main_call3.v14 main_call3.v4 main_call3.v15 select,
    unary main_v51 main_v52 (broadcastInDim S2x4096x128 ![0, 1, 2] bcast_S1x4096x1_S2x4096x128_0_1_2 : (⟨S1x4096x1, .i32⟩ : BufTy).Contents (Elt F) → (⟨S2x4096x128, .i32⟩ : BufTy).Contents (Elt F)),
    binary main_v46 main_v52 main_v53 (subi : (⟨S2x4096x128, .i32⟩ : BufTy).Contents (Elt F) → (⟨S2x4096x128, .i32⟩ : BufTy).Contents (Elt F) → (⟨S2x4096x128, .i32⟩ : BufTy).Contents (Elt F)),
    nullary main_c_9 (constantI S_ 32 0#32),
    unary main_c_9 main_v54 (broadcastInDim S2x4096x128 ![] bcast_S_S2x4096x128 : (⟨S_, .i32⟩ : BufTy).Contents (Elt F) → (⟨S2x4096x128, .i32⟩ : BufTy).Contents (Elt F)),
    binary main_v53 main_v54 main_v55 (cmpi .sge : (⟨S2x4096x128, .i32⟩ : BufTy).Contents (Elt F) → (⟨S2x4096x128, .i32⟩ : BufTy).Contents (Elt F) → (⟨S2x4096x128, .i1⟩ : BufTy).Contents (Elt F)),
    nullary main_c_10 (constantI S_ 32 64#32),
    unary main_c_10 main_v56 (broadcastInDim S2x4096x128 ![] bcast_S_S2x4096x128 : (⟨S_, .i32⟩ : BufTy).Contents (Elt F) → (⟨S2x4096x128, .i32⟩ : BufTy).Contents (Elt F)),
    binary main_v53 main_v56 main_v57 (cmpi .slt : (⟨S2x4096x128, .i32⟩ : BufTy).Contents (Elt F) → (⟨S2x4096x128, .i32⟩ : BufTy).Contents (Elt F) → (⟨S2x4096x128, .i1⟩ : BufTy).Contents (Elt F)),
    binary main_v55 main_v57 main_v58 (andi : (⟨S2x4096x128, .i1⟩ : BufTy).Contents (Elt F) → (⟨S2x4096x128, .i1⟩ : BufTy).Contents (Elt F) → (⟨S2x4096x128, .i1⟩ : BufTy).Contents (Elt F)),
    nullary main_c_11 (constantI S_ 1 1#1),
    unary main_c_11 main_v59 (broadcastInDim S4096x128 ![] bcast_S_S4096x128 : (⟨S_, .i1⟩ : BufTy).Contents (Elt F) → (⟨S4096x128, .i1⟩ : BufTy).Contents (Elt F)),
    unary main_v46 main_v60 ((extractStridedSlice S1x4096x128 ![1, 0, 0] · slices_S2x4096x128_S1x4096x128_1_0_0) : (⟨S2x4096x128, .i32⟩ : BufTy).Contents (Elt F) → (⟨S1x4096x128, .i32⟩ : BufTy).Contents (Elt F)),
    reshape main_v60 main_v61 (rfl : (.i32 : EltTy) = .i32) shapeCasts_S1x4096x128_S4096x128,
    unary main_v46 main_v62 ((extractStridedSlice S1x4096x128 ![0, 0, 0] · slices_S2x4096x128_S1x4096x128_0_0_0) : (⟨S2x4096x128, .i32⟩ : BufTy).Contents (Elt F) → (⟨S1x4096x128, .i32⟩ : BufTy).Contents (Elt F)),
    reshape main_v62 main_v63 (rfl : (.i32 : EltTy) = .i32) shapeCasts_S1x4096x128_S4096x128,
    binary main_v61 main_v63 main_v64 (cmpi .ne : (⟨S4096x128, .i32⟩ : BufTy).Contents (Elt F) → (⟨S4096x128, .i32⟩ : BufTy).Contents (Elt F) → (⟨S4096x128, .i1⟩ : BufTy).Contents (Elt F)),
    unary main_v59 main_v65 (broadcastInDim S1x4096x128 ![1, 2] bcast_S4096x128_S1x4096x128_1_2 : (⟨S4096x128, .i1⟩ : BufTy).Contents (Elt F) → (⟨S1x4096x128, .i1⟩ : BufTy).Contents (Elt F)),
    unary main_v64 main_v66 (broadcastInDim S1x4096x128 ![1, 2] bcast_S4096x128_S1x4096x128_1_2 : (⟨S4096x128, .i1⟩ : BufTy).Contents (Elt F) → (⟨S1x4096x128, .i1⟩ : BufTy).Contents (Elt F)),
    binary main_v65 main_v66 main_v67 ((fun a b => concatenate S2x4096x128 0 [⟨S1x4096x128, a⟩, ⟨S1x4096x128, b⟩] concatenates_S1x4096x128_S1x4096x128_S2x4096x128_d0) : (⟨S1x4096x128, .i1⟩ : BufTy).Contents (Elt F) → (⟨S1x4096x128, .i1⟩ : BufTy).Contents (Elt F) → (⟨S2x4096x128, .i1⟩ : BufTy).Contents (Elt F)),
    binary main_v58 main_v67 main_v68 (andi : (⟨S2x4096x128, .i1⟩ : BufTy).Contents (Elt F) → (⟨S2x4096x128, .i1⟩ : BufTy).Contents (Elt F) → (⟨S2x4096x128, .i1⟩ : BufTy).Contents (Elt F)),
    unary main_v50 main_v69 (broadcastInDim S2x4096x128 ![0, 1, 2] bcast_S1x4096x1_S2x4096x128_0_1_2 : (⟨S1x4096x1, .i32⟩ : BufTy).Contents (Elt F) → (⟨S2x4096x128, .i32⟩ : BufTy).Contents (Elt F)),
    binary main_v69 main_v53 main_v70 (addi : (⟨S2x4096x128, .i32⟩ : BufTy).Contents (Elt F) → (⟨S2x4096x128, .i32⟩ : BufTy).Contents (Elt F) → (⟨S2x4096x128, .i32⟩ : BufTy).Contents (Elt F)),
    nullary main_c_12 (constantI S_ 32 0#32),
    TRef.unary (.of main_c_12) main_call4.v0 id,
    TRef.unary main_call4.v0 main_call4.v1 (broadcastInDim S2x4096x128 ![] bcast_S_S2x4096x128),
    TRef.ternary (.of main_v68) (.of main_v70) main_call4.v1 main_call4.v2 select,
    unary main_v44 main_v72 (bitcastToFloat .f32 : (⟨S2x4096x128, .i32⟩ : BufTy).Contents (Elt F) → (⟨S2x4096x128, .f32⟩ : BufTy).Contents (Elt F)),
    nullary main_cst_13 (constant S_ .f32 0x00000000#32),
    TRef.unary (.of main_cst_13) main_call5.v0 id,
    TRef.unary main_call5.v0 main_call5.v1 (broadcastInDim S2x4096x128 ![] bcast_S_S2x4096x128),
    TRef.ternary (.of main_v68) (.of main_v72) main_call5.v1 main_call5.v2 select,
    unary main_v73 main_v74 ((truncf .bf16 · bitsLt_bf16_f32) : (⟨S2x4096x128, .f32⟩ : BufTy).Contents (Elt F) → (⟨S2x4096x128, .bf16⟩ : BufTy).Contents (Elt F)),
    unary main_v42 main_v75 (broadcastInDim S2x4096x128 ![2] bcast_S128_S2x4096x128_2 : (⟨S128, .i32⟩ : BufTy).Contents (Elt F) → (⟨S2x4096x128, .i32⟩ : BufTy).Contents (Elt F)),
    reshape main_v71 main_v76 (rfl : (.i32 : EltTy) = .i32) shapeCasts_S2x4096x128_S1048576,
    reshape main_v74 main_v77 (rfl : (.bf16 : EltTy) = .bf16) shapeCasts_S2x4096x128_S1048576,
    reshape main_v75 main_v78 (rfl : (.i32 : EltTy) = .i32) shapeCasts_S2x4096x128_S1048576 ]

/-- @main's operations that compute the gathered rows, their weighted sum by row, and the result. -/
abbrev tailOps : List (HloOp τ sig (Elt F)) :=
  [ binary main_v37 main_v76 main_v79 ((fun a b => concatenate S3145728 0 [⟨S2097152, a⟩, ⟨S1048576, b⟩] concatenates_S2097152_S1048576_S3145728_d0) : (⟨S2097152, .i32⟩ : BufTy).Contents (Elt F) → (⟨S1048576, .i32⟩ : BufTy).Contents (Elt F) → (⟨S3145728, .i32⟩ : BufTy).Contents (Elt F)),
    binary main_v38 main_v77 main_v80 ((fun a b => concatenate S3145728 0 [⟨S2097152, a⟩, ⟨S1048576, b⟩] concatenates_S2097152_S1048576_S3145728_d0) : (⟨S2097152, .bf16⟩ : BufTy).Contents (Elt F) → (⟨S1048576, .bf16⟩ : BufTy).Contents (Elt F) → (⟨S3145728, .bf16⟩ : BufTy).Contents (Elt F)),
    binary main_v39 main_v78 main_v81 ((fun a b => concatenate S3145728 0 [⟨S2097152, a⟩, ⟨S1048576, b⟩] concatenates_S2097152_S1048576_S3145728_d0) : (⟨S2097152, .i32⟩ : BufTy).Contents (Elt F) → (⟨S1048576, .i32⟩ : BufTy).Contents (Elt F) → (⟨S3145728, .i32⟩ : BufTy).Contents (Elt F)),
    nullary main_c_14 (constantI S_ 32 0#32),
    unary main_c_14 main_v82 (broadcastInDim S3145728 ![] bcast_S_S3145728 : (⟨S_, .i32⟩ : BufTy).Contents (Elt F) → (⟨S3145728, .i32⟩ : BufTy).Contents (Elt F)),
    binary main_v79 main_v82 main_v83 (cmpi .slt : (⟨S3145728, .i32⟩ : BufTy).Contents (Elt F) → (⟨S3145728, .i32⟩ : BufTy).Contents (Elt F) → (⟨S3145728, .i1⟩ : BufTy).Contents (Elt F)),
    nullary main_c_15 (constantI S_ 32 262144#32),
    unary main_c_15 main_v84 (broadcastInDim S3145728 ![] bcast_S_S3145728 : (⟨S_, .i32⟩ : BufTy).Contents (Elt F) → (⟨S3145728, .i32⟩ : BufTy).Contents (Elt F)),
    binary main_v79 main_v84 main_v85 (addi : (⟨S3145728, .i32⟩ : BufTy).Contents (Elt F) → (⟨S3145728, .i32⟩ : BufTy).Contents (Elt F) → (⟨S3145728, .i32⟩ : BufTy).Contents (Elt F)),
    ternary main_v83 main_v85 main_v79 main_v86 (select : (⟨S3145728, .i1⟩ : BufTy).Contents (Elt F) → (⟨S3145728, .i32⟩ : BufTy).Contents (Elt F) → (⟨S3145728, .i32⟩ : BufTy).Contents (Elt F) → (⟨S3145728, .i32⟩ : BufTy).Contents (Elt F)),
    unary main_v86 main_v87 (broadcastInDim S3145728x1 ![0] bcast_S3145728_S3145728x1_0 : (⟨S3145728, .i32⟩ : BufTy).Contents (Elt F) → (⟨S3145728x1, .i32⟩ : BufTy).Contents (Elt F)),
    binary main_arg0 main_v87 main_v88 ((fun x i => Host.gather gather_S262144x96_S3145728x1_S3145728x96_1_0_n_n_0_1_196 x i) : (⟨S262144x96, .bf16⟩ : BufTy).Contents (Elt F) → (⟨S3145728x1, .i32⟩ : BufTy).Contents (Elt F) → (⟨S3145728x96, .bf16⟩ : BufTy).Contents (Elt F)),
    unary main_v88 main_v89 ((extf .f32 · bitsLt_bf16_f32) : (⟨S3145728x96, .bf16⟩ : BufTy).Contents (Elt F) → (⟨S3145728x96, .f32⟩ : BufTy).Contents (Elt F)),
    unary main_v80 main_v90 ((extf .f32 · bitsLt_bf16_f32) : (⟨S3145728, .bf16⟩ : BufTy).Contents (Elt F) → (⟨S3145728, .f32⟩ : BufTy).Contents (Elt F)),
    unary main_v90 main_v91 (broadcastInDim S3145728x1 ![0] bcast_S3145728_S3145728x1_0 : (⟨S3145728, .f32⟩ : BufTy).Contents (Elt F) → (⟨S3145728x1, .f32⟩ : BufTy).Contents (Elt F)),
    unary main_v91 main_v92 (broadcastInDim S3145728x96 ![0, 1] bcast_S3145728x1_S3145728x96_0_1 : (⟨S3145728x1, .f32⟩ : BufTy).Contents (Elt F) → (⟨S3145728x96, .f32⟩ : BufTy).Contents (Elt F)),
    binary main_v89 main_v92 main_v93 (mulf : (⟨S3145728x96, .f32⟩ : BufTy).Contents (Elt F) → (⟨S3145728x96, .f32⟩ : BufTy).Contents (Elt F) → (⟨S3145728x96, .f32⟩ : BufTy).Contents (Elt F)),
    nullary main_cst_16 (constant S_ .f32 0x00000000#32),
    unary main_cst_16 main_v94 (broadcastInDim S256x96 ![] bcast_S_S256x96 : (⟨S_, .f32⟩ : BufTy).Contents (Elt F) → (⟨S256x96, .f32⟩ : BufTy).Contents (Elt F)),
    unary main_v81 main_v95 (broadcastInDim S3145728x1 ![0] bcast_S3145728_S3145728x1_0 : (⟨S3145728, .i32⟩ : BufTy).Contents (Elt F) → (⟨S3145728x1, .i32⟩ : BufTy).Contents (Elt F)),
    ternary main_v94 main_v95 main_v93 main_v96 ((fun x i u => Host.scatterAdd scatter_S256x96_S3145728x1_S3145728x96_1_0_0_1 x i u) : (⟨S256x96, .f32⟩ : BufTy).Contents (Elt F) → (⟨S3145728x1, .i32⟩ : BufTy).Contents (Elt F) → (⟨S3145728x96, .f32⟩ : BufTy).Contents (Elt F) → (⟨S256x96, .f32⟩ : BufTy).Contents (Elt F)),
    unary main_v96 main_v97 ((truncf .bf16 · bitsLt_bf16_f32) : (⟨S256x96, .f32⟩ : BufTy).Contents (Elt F) → (⟨S256x96, .bf16⟩ : BufTy).Contents (Elt F)),
    unary main_v97 main_v98 ((transpose S96x256 [1, 0] · transposes_S256x96_S96x256_1_0) : (⟨S256x96, .bf16⟩ : BufTy).Contents (Elt F) → (⟨S96x256, .bf16⟩ : BufTy).Contents (Elt F)) ]

/-- @main's operations, in order. -/
abbrev ops : List (HloOp τ sig (Elt F)) := denseOps ++ (sparseOps ++ tailOps)

/-- @main is that straight line. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem denseOps_sub : (denseOps : List (HloOp τ sig (Elt F))).Forall fun op => op.bufs ⊆ tcRefs τ sig :=
    ⟨reshape_bufs_sub .., unary_bufs_sub .., reshape_bufs_sub .., reshape_bufs_sub .., unary_bufs_sub .., reshape_bufs_sub ..,
    nullary_bufs_sub .., unary_bufs_sub .., binary_bufs_sub .., nullary_bufs_sub .., nullary_bufs_sub .., unary_bufs_sub ..,
    binary_bufs_sub .., unary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., binary_bufs_sub .., nullary_bufs_sub .., unary_bufs_sub .., unary_bufs_sub ..,
    reshape_bufs_sub .., unary_bufs_sub .., reshape_bufs_sub .., binary_bufs_sub .., unary_bufs_sub .., unary_bufs_sub ..,
    binary_bufs_sub .., binary_bufs_sub .., unary_bufs_sub .., binary_bufs_sub .., nullary_bufs_sub .., unary_bufs_sub ..,
    unary_bufs_sub .., ternary_bufs_sub .., unary_bufs_sub .., nullary_bufs_sub .., unary_bufs_sub .., unary_bufs_sub ..,
    ternary_bufs_sub .., unary_bufs_sub .., unary_bufs_sub .., reshape_bufs_sub .., reshape_bufs_sub .., reshape_bufs_sub ..⟩

theorem sparseOps_sub : (sparseOps : List (HloOp τ sig (Elt F))).Forall fun op => op.bufs ⊆ tcRefs τ sig :=
    ⟨unary_bufs_sub .., reshape_bufs_sub .., reshape_bufs_sub .., unary_bufs_sub .., reshape_bufs_sub .., nullary_bufs_sub ..,
    unary_bufs_sub .., binary_bufs_sub .., nullary_bufs_sub .., nullary_bufs_sub .., unary_bufs_sub .., binary_bufs_sub ..,
    unary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., binary_bufs_sub .., nullary_bufs_sub .., unary_bufs_sub .., unary_bufs_sub .., reshape_bufs_sub ..,
    unary_bufs_sub .., reshape_bufs_sub .., binary_bufs_sub .., unary_bufs_sub .., unary_bufs_sub .., binary_bufs_sub ..,
    binary_bufs_sub .., unary_bufs_sub .., binary_bufs_sub .., nullary_bufs_sub .., unary_bufs_sub .., unary_bufs_sub ..,
    ternary_bufs_sub .., unary_bufs_sub .., nullary_bufs_sub .., unary_bufs_sub .., unary_bufs_sub .., ternary_bufs_sub ..,
    unary_bufs_sub .., unary_bufs_sub .., reshape_bufs_sub .., reshape_bufs_sub .., reshape_bufs_sub ..⟩

theorem tailOps_sub : (tailOps : List (HloOp τ sig (Elt F))).Forall fun op => op.bufs ⊆ tcRefs τ sig :=
    ⟨binary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., unary_bufs_sub .., unary_bufs_sub .., binary_bufs_sub .., nullary_bufs_sub ..,
    unary_bufs_sub .., unary_bufs_sub .., ternary_bufs_sub .., unary_bufs_sub .., unary_bufs_sub ..⟩

theorem ops_sub : (ops : List (HloOp τ sig (Elt F))).Forall fun op => op.bufs ⊆ tcRefs τ sig :=
  List.forall_append.2 ⟨denseOps_sub, List.forall_append.2 ⟨sparseOps_sub, tailOps_sub⟩⟩

theorem ops_arg0 (V : Valuation τ sig (Elt F)) : after ops V (main_arg0 : DevRef τ sig) = V (main_arg0 : DevRef τ sig) := rfl
theorem ops_arg1 (V : Valuation τ sig (Elt F)) : after ops V (main_arg1 : DevRef τ sig) = V (main_arg1 : DevRef τ sig) := rfl
theorem ops_arg2 (V : Valuation τ sig (Elt F)) : after ops V (main_arg2 : DevRef τ sig) = V (main_arg2 : DevRef τ sig) := rfl
theorem ops_arg3 (V : Valuation τ sig (Elt F)) : after ops V (main_arg3 : DevRef τ sig) = V (main_arg3 : DevRef τ sig) := rfl

/-- From any memory with zero counters every weakly fair execution of @main terminates, with each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run
-- ==== Proof.Frames.lean ====
/-
  The three frames: each program ends with its arguments unchanged and every semaphore counter at zero.
-/
module

public import proofs.«01_k».proof.Defs
public import proofs.«01_k».proof.Proof.Kernel.Run
public import proofs.«01_k».proof.Proof.KernelIdeal.Run
public import proofs.«01_k».proof.Proof.Ref

@[expose] public section

noncomputable section

namespace Cert.Proof

open Idealize.ShloMosaic Idealize.ShloMosaic.TcCoe Idealize.SL.Sem

/-- The kernel's frame at the machine's floats. -/
theorem quiescent_Kernel : Cert.quiescent_Kernel (hKernel := Cert.Kernel.Gen.facts) := fun m ρ _ =>
  (θ_run _ _ _).mono (fun r h => ⟨fun c => by
    open Cert.Kernel Cert.Kernel.Gen Cert.Kernel.Run in
    have h := h.1
    exact ⟨((h c).2 main_arg0 (Pipeline.mem_restRefs_of main_arg0 (by decide) (by decide))).trans (V_main_arg0 m c),
      ((h c).1 0).trans (((dats m 0 c).arrAt_in 0 rfl _).trans (V_main_arg1 m c)),
      ((h c).1 1).trans (((dats m 0 c).arrAt_in 1 rfl _).trans (V_main_arg2 m c)),
      ((h c).2 main_arg3 (Pipeline.mem_restRefs_of main_arg3 (by decide) (by decide))).trans (V_main_arg3 m c)⟩, h.2⟩)
    (Cert.Kernel.Run.run m ρ)

/-- The idealized kernel's frame. -/
theorem quiescent_KernelIdeal : Cert.quiescent_KernelIdeal (hKernelIdeal := Cert.KernelIdeal.Gen.facts) := fun m ρ _ =>
  (θ_run _ _ _).mono (fun r h => ⟨fun c => by
    open Cert.KernelIdeal Cert.KernelIdeal.Gen Cert.KernelIdeal.Run in
    have h := h.1
    exact ⟨((h c).2 main_arg0 (Pipeline.mem_restRefs_of main_arg0 (by decide) (by decide))).trans (V_main_arg0 m c),
      ((h c).1 0).trans (((dats m 0 c).arrAt_in 0 rfl _).trans (V_main_arg1 m c)),
      ((h c).1 1).trans (((dats m 0 c).arrAt_in 1 rfl _).trans (V_main_arg2 m c)),
      ((h c).2 main_arg3 (Pipeline.mem_restRefs_of main_arg3 (by decide) (by decide))).trans (V_main_arg3 m c)⟩, h.2⟩)
    (Cert.KernelIdeal.Run.run m ρ)

/-- The reference's frame. -/
theorem quiescent_ReferenceIdeal : Cert.quiescent_ReferenceIdeal (hReferenceIdeal := Cert.ReferenceIdeal.Gen.facts) := fun m ρ _ =>
  (θ_run _ _ _).mono (fun r h => ⟨fun c =>
      ⟨(h c _).trans (Cert.ReferenceIdeal.Run.ops_arg0 _), (h c _).trans (Cert.ReferenceIdeal.Run.ops_arg1 _),
        (h c _).trans (Cert.ReferenceIdeal.Run.ops_arg2 _), (h c _).trans (Cert.ReferenceIdeal.Run.ops_arg3 _)⟩,
      Idealize.ShloMosaic.sem_eq_zero_of_no_sems (by decide) r.2⟩)
    (Cert.ReferenceIdeal.Run.run_main m ρ)

end Cert.Proof
-- ==== Proof.Sums.lean ====
/-
  Sums over ranges, and what one packed pair of words adds to an output row.
-/
module

public import Idealize.ShloMosaic.PureOps.Ideal
public import Idealize.ShloMosaic.Lib.ValueIdx

@[expose] public section

noncomputable section

namespace Cert.Proof.Sums

open Idealize.ShloMosaic Finset

/-- A range cut in `m` stretches of `n`. -/
theorem sum_range_mul {M : Type*} [AddCommMonoid M] (f : ℕ → M) (m n : ℕ) :
    ∑ i ∈ range (m * n), f i = ∑ i ∈ range m, ∑ j ∈ range n, f (i * n + j) := by
  induction m with
  | zero => simp
  | succ m ih => rw [Nat.succ_mul, Finset.sum_range_add, ih, Finset.sum_range_succ]

/-- A sum over `Fin n` of a function of the value is a sum over a range. -/
theorem sum_fin {M : Type*} [AddCommMonoid M] {n : ℕ} (g : Fin n → M) (f : ℕ → M) (h : ∀ k : Fin n, g k = f k.val) :
    ∑ k : Fin n, g k = ∑ k ∈ range n, f k := by
  rw [Finset.sum_range]; exact Finset.sum_congr rfl fun k _ => h k

/-- A word's low half: the column within its span. -/
def lo (w : BitVec 32) : ℕ := w.toNat % 65536

/-- A word read as a float: the weight. -/
def wt (w : BitVec 32) : EReal := Ideal.ofBits .f32 w

/-- Slot `s` of a pair of words adds the weighted `X` at its column, when the column lies in the group's span from `base`
    on, and, for the second slot, when it is not the first slot's column. -/
def entry (X : ℕ → EReal) (first base width : ℕ) (w : ℕ → BitVec 32) (s : ℕ) : EReal :=
  if (base ≤ lo (w s) ∧ lo (w s) < base + width) ∧ (s = 0 ∨ lo (w 1) ≠ lo (w 0)) then X (first + (lo (w s) - base)) * wt (w s) else 0

/-- The weight a pair of words gives to place `n`: the first slot's where its column is `n`, else the second's. -/
def at_ (w : ℕ → BitVec 32) (n : ℕ) : EReal :=
  if n = lo (w 0) then wt (w 0) else if n = lo (w 1) then wt (w 1) else 0

/-- A sum over a span with one place marked. -/
theorem sum_marked (f : ℕ → EReal) (base width l : ℕ) (p : Prop) [Decidable p] :
    ∑ j ∈ range width, (if base + j = l ∧ p then f j else 0)
      = if (base ≤ l ∧ l < base + width) ∧ p then f (l - base) else 0 := by
  by_cases hp : p
  · by_cases h : base ≤ l ∧ l < base + width
    · rw [if_pos ⟨h, hp⟩, Finset.sum_eq_single (l - base)]
      · rw [if_pos ⟨by omega, hp⟩]
      · intro j _ hj; rw [if_neg]; omega
      · intro hj; exact absurd (Finset.mem_range.2 (by omega)) hj
    · rw [if_neg (fun h' => h h'.1)]
      refine Finset.sum_eq_zero fun j hj => if_neg ?_
      have := Finset.mem_range.1 hj; omega
  · rw [if_neg (fun h' => hp h'.2)]
    exact Finset.sum_eq_zero fun j _ => if_neg fun h' => hp h'.2

/-- A group's columns against its expanded weights: what the two slots add. -/
theorem sum_expand (X : ℕ → EReal) (first base width : ℕ) (w : ℕ → BitVec 32) :
    ∑ j ∈ range width, X (first + j) * at_ w (base + j)
      = entry X first base width w 0 + entry X first base width w 1 := by
  have e : ∀ j, X (first + j) * at_ w (base + j)
      = (if base + j = lo (w 0) ∧ ((0 : ℕ) = 0 ∨ lo (w 1) ≠ lo (w 0)) then X (first + j) * wt (w 0) else 0)
        + (if base + j = lo (w 1) ∧ ((1 : ℕ) = 0 ∨ lo (w 1) ≠ lo (w 0)) then X (first + j) * wt (w 1) else 0) := by
    intro j; unfold at_
    by_cases h0 : base + j = lo (w 0)
    · by_cases h1 : lo (w 1) = lo (w 0)
      · simp [h0, h1]
      · have : ¬ lo (w 0) = lo (w 1) := fun h => h1 h.symm
        simp [h0, this]
    · by_cases h1 : base + j = lo (w 1)
      · have : lo (w 1) ≠ lo (w 0) := fun h => h0 (h1.trans h)
        simp [h0, h1, this]
      · simp [h0, h1]
  rw [Finset.sum_congr rfl fun j _ => e j, Finset.sum_add_distrib, sum_marked, sum_marked]
  rfl

/-- What a table of `n` groups of `width` columns adds to output row `r`: over its 128 row positions, those whose row is
    `r`, every group's two slots. -/
def tableSum (X : ℕ → EReal) (width n : ℕ) (word : ℕ → ℕ → ℕ → BitVec 32) (row : ℕ → BitVec 32) (r : ℕ) : EReal :=
  ∑ rho ∈ range 128, if row rho = BitVec.ofNat 32 r then
    ∑ G ∈ range n, (entry X (G * width) (G * width % 64) width (fun s => word s rho G) 0
      + entry X (G * width) (G * width % 64) width (fun s => word s rho G) 1) else 0

end Cert.Proof.Sums
-- ==== Proof.Tile.lean ====
/-
  One tile of the kernel's expanded weights over the reals, entry by entry: the weight of column `k` of lane `q`.
-/
module

public import proofs.«01_k».proof.Proof.RolledWords
public import proofs.«01_k».proof.Proof.Sums
public import Idealize.ShloMosaic.Lib.BitcastPair
public import Idealize.ShloMosaic.Lib.Pointwise
public import Idealize.ShloMosaic.Lib.Pipeline.Value
public import Idealize.ShloMosaic.Lib.MatmulPlain

@[expose] public section

noncomputable section

namespace Cert.Proof.Tile

open Idealize.ShloMosaic hiding ix1 ix2 ix3 ix4 ix5
open Rolled Sums
open Idealize.ShloMosaic.ValueIdx (ix1 ix2 ix3 ix4 ix5)

/-- Word `s` of lane `q` and row `g` of a staged block. -/
def word (A : IVec S2x2x128x128 32) (B : IVec S1x2x128x128 32) (b : Fin 3) (g : Fin 128) (q : Fin 128) (s : Fin 2) : BitVec 32 :=
  tableOf A B b s (ix4 (0 : Fin 1) (0 : Fin 1) q g)

theorem wordT_apply (v : IVec S1x1x128x128 32) (g q : Fin 128) : wordT v (ix2 g q) = v (ix4 (0 : Fin 1) (0 : Fin 1) q g) := by
  unfold wordT
  rw [transpose_apply _ _ _ _ (ix2 q g) (by intro b; match b with | ⟨0, _⟩ => rfl | ⟨1, _⟩ => rfl)]
  refine shapeCast_apply _ _ _ _ ?_
  rw [Shape.rowMajor_val_four, Shape.rowMajor_val_two]
  show ((0 * 1 + 0) * 128 + q.val) * 128 + g.val = q.val * 128 + g.val
  omega

theorem flat128 (j : S1x1x1x128x128.Idx) : (S128x128.rowMajor (ix2 (j 3) (j 4))).val = (S1x1x1x128x128.rowMajor j).val := by
  rw [Shape.rowMajor_val_five, Shape.rowMajor_val_two]
  have h0 : (j 0).val < 1 := (j 0).isLt
  have h1 : (j 1).val < 1 := (j 1).isLt
  have h2 : (j 2).val < 1 := (j 2).isLt
  show (j 3).val * 128 + (j 4).val = ((((j 0).val * 1 + (j 1).val) * 1 + (j 2).val) * 128 + (j 3).val) * 128 + (j 4).val
  omega

theorem wordW_apply (v : IVec S1x1x128x128 32) (j : S1x1x1x128x128.Idx) :
    wordW v j = v (ix4 (0 : Fin 1) (0 : Fin 1) (j 4) (j 3)) :=
  (shapeCast_apply _ _ j (ix2 (j 3) (j 4)) (flat128 j)).trans (wordT_apply v (j 3) (j 4))

theorem wordD_apply (v : IVec S1x1x128x128 32) (j : S1x1x1x128x128.Idx) :
    wordD v j = (v (ix4 (0 : Fin 1) (0 : Fin 1) (j 4) (j 3))).setWidth 16 ++ (v (ix4 (0 : Fin 1) (0 : Fin 1) (j 4) (j 3))).setWidth 16 :=
  (shapeCast_apply _ _ j (ix2 (j 3) (j 4)) (flat128 j)).trans
    ((packElementwiseI16_apply _ _ _).trans (congrArg (fun w : BitVec 32 => w.setWidth 16 ++ w.setWidth 16) (wordT_apply v (j 3) (j 4))))

variable (A : IVec S2x2x128x128 32) (B : IVec S1x2x128x128 32)

/-- A row of weights, read. -/
theorem words_rowW (b : Fin 3) (s : Fin 2) (g : Fin 128) (x : S1x1x1x16x128.Idx) :
    words A B ((rowW b s g).idx x) = word A B b g (x 4) s := by
  have h0 : (x 0).val < 1 := (x 0).isLt
  have h1 : (x 1).val < 1 := (x 1).isLt
  have h2 : (x 2).val < 1 := (x 2).isLt
  have e0 : (rowW b s g).idx x 0 = b := Fin.ext (by simp [rowW, LoadRect.idx]; omega)
  have e1 : (rowW b s g).idx x 1 = s := Fin.ext (by simp [rowW, LoadRect.idx]; omega)
  have e2 : ((rowW b s g).idx x 2).val = 0 := by simp [rowW, LoadRect.idx]; omega
  have e3 : (rowW b s g).idx x 3 = g := Fin.ext (by simp [rowW, LoadRect.idx])
  have e4 : (rowW b s g).idx x 4 = x 4 := Fin.ext (by simp [rowW, LoadRect.idx])
  unfold words
  rw [if_pos e2, wordW_apply, e0, e1]
  show tableOf A B b s (ix4 0 0 ((rowW b s g).idx x 4) ((rowW b s g).idx x 3)) = _
  rw [e3, e4]; rfl

/-- A row of columns, read. -/
theorem words_rowD (b : Fin 3) (s : Fin 2) (g : Fin 128) (x : S1x1x1x8x128.Idx) :
    words A B ((rowD b s g).idx x) = (word A B b g (x 4) s).setWidth 16 ++ (word A B b g (x 4) s).setWidth 16 := by
  have h0 : (x 0).val < 1 := (x 0).isLt
  have h1 : (x 1).val < 1 := (x 1).isLt
  have h2 : (x 2).val < 1 := (x 2).isLt
  have e0 : (rowD b s g).idx x 0 = b := Fin.ext (by simp [rowD, LoadRect.idx]; omega)
  have e1 : (rowD b s g).idx x 1 = s := Fin.ext (by simp [rowD, LoadRect.idx]; omega)
  have e2 : ((rowD b s g).idx x 2).val = 1 := by simp [rowD, LoadRect.idx]; omega
  have e3 : (rowD b s g).idx x 3 = g := Fin.ext (by simp [rowD, LoadRect.idx])
  have e4 : (rowD b s g).idx x 4 = x 4 := Fin.ext (by simp [rowD, LoadRect.idx])
  unfold words
  rw [if_neg (by rw [e2]; decide), wordD_apply, e0, e1]
  exact congrArg (fun w : BitVec 32 => w.setWidth 16 ++ w.setWidth 16)
    (show tableOf A B b s (ix4 0 0 ((rowD b s g).idx x 4) ((rowD b s g).idx x 3)) = _ by rw [e3, e4]; rfl)

/-- A group's weights: the word's float in every row. -/
theorem wOf_apply (b : Fin 3) (s : Fin 2) (g : Fin 128) (r : Fin 16) (q : Fin 128) :
    wOf (F := Ideal) (fun x => words A B ((rowW b s g).idx x)) (ix2 r q) = wt (word A B b g q s) := by
  show Ideal.ofBits .f32 (shapeCast (s := S1x1x1x16x128) S16x128 (fun x => words A B ((rowW b s g).idx x)) _ (ix2 r q)) = _
  rw [shapeCast_apply _ _ _ (ix5 (0 : Fin 1) (0 : Fin 1) (0 : Fin 1) r q)]
  · rw [words_rowW]; rfl
  · rw [Shape.rowMajor_val_five, Shape.rowMajor_val_two]
    show (((0 * 1 + 0) * 1 + 0) * 16 + r.val) * 128 + q.val = r.val * 128 + q.val
    omega

/-- A group's columns: the word's low half in every row. -/
theorem dOf_apply (b : Fin 3) (s : Fin 2) (g : Fin 128) (r : Fin 16) (q : Fin 128) :
    dOf (fun x => words A B ((rowD b s g).idx x)) (ix2 r q) = (word A B b g q s).setWidth 16 := by
  unfold dOf
  rw [bitcast_32_16]
  have key : ∀ z : S8x128.Idx, z 1 = q →
      shapeCast (s := S1x1x1x8x128) S8x128 (fun x => words A B ((rowD b s g).idx x)) (by decide) z
        = (word A B b g q s).setWidth 16 ++ (word A B b g q s).setWidth 16 := by
    intro z hz
    refine (shapeCast_apply _ _ z (ix5 (0 : Fin 1) (0 : Fin 1) (0 : Fin 1) (z 0) (z 1)) ?_).trans ((words_rowD A B b s g _).trans ?_)
    · rw [Shape.rowMajor_val_five, Shape.rowMajor_val_two]
      show (((0 * 1 + 0) * 1 + 0) * 8 + (z 0).val) * 128 + (z 1).val = (z 0).val * 128 + (z 1).val
      omega
    · exact congrArg (fun q' : Fin 128 => (word A B b g q' s).setWidth 16 ++ (word A B b g q' s).setWidth 16) hz
  rw [key _ rfl]
  generalize (word A B b g q s).setWidth 16 = v
  have h2 : S16x128.row (ix2 r q) % 2 = 0 ∨ S16x128.row (ix2 r q) % 2 = 1 := by omega
  apply BitVec.eq_of_getLsbD_eq
  intro i hi
  rcases h2 with h | h <;> rw [h] <;> simp [hi]
  · rw [BitVec.getLsbD_append, if_pos hi, ← BitVec.getLsbD_eq_getElem]
  · rw [BitVec.getLsbD_append, if_neg (by omega), ← BitVec.getLsbD_eq_getElem]; congr 1; omega

/-- Sixteen expanded columns: the weight the pair of words gives each. -/
theorem piece_apply (base : ℕ) (hb : base + 16 ≤ 65536) (b : Fin 3) (g : Fin 128) (r : Fin 16) (q : Fin 128) :
    Rolled.piece (F := Ideal) (cols (BitVec.ofNat 16 base)) (dOf (fun x => words A B ((rowD b 0 g).idx x))) (dOf (fun x => words A B ((rowD b 1 g).idx x)))
        (wOf (fun x => words A B ((rowW b 0 g).idx x))) (wOf (fun x => words A B ((rowW b 1 g).idx x))) (ix2 r q)
      = at_ (fun s => word A B b g q (Fin.ofNat 2 s)) (base + r.val) := by
  have hr := r.isLt
  have hc : cols (BitVec.ofNat 16 base) (ix2 r q) = BitVec.ofNat 16 (base + r.val) := by
    show BitVec.ofNat 16 _ + BitVec.ofNat 16 base = _
    rw [← BitVec.ofNat_add]; congr 1; show 0 * 16 + r.val + base = _; omega
  have he : ∀ w : BitVec 32, IntOp.cmpi .eq (BitVec.ofNat 16 (base + r.val)) (w.setWidth 16) = if base + r.val = lo w then 1#1 else 0#1 := by
    intro w
    have : (BitVec.ofNat 16 (base + r.val) = w.setWidth 16) ↔ base + r.val = lo w := by
      rw [← BitVec.toNat_inj, BitVec.toNat_ofNat, BitVec.toNat_setWidth]
      unfold lo; omega
    by_cases h : base + r.val = lo w
    · rw [if_pos h]; simp [IntOp.cmpi, this.2 h]
    · rw [if_neg h];
      show BitVec.ofBool (BitVec.ofNat 16 (base + r.val) == w.setWidth 16) = 0#1
      rw [beq_eq_false_iff_ne.2 (mt this.1 h)]; rfl
  show Scalar.select (IntOp.cmpi .eq (cols (BitVec.ofNat 16 base) (ix2 r q)) (dOf _ (ix2 r q))) (wOf (F := Ideal) _ (ix2 r q))
    (Scalar.select (IntOp.cmpi .eq (cols (BitVec.ofNat 16 base) (ix2 r q)) (dOf _ (ix2 r q))) (wOf (F := Ideal) _ (ix2 r q)) (Ideal.ofBits .bf16 0#16)) = _
  rw [hc, dOf_apply, dOf_apply, wOf_apply, wOf_apply, he, he]
  unfold at_
  have hz : Ideal.ofBits .bf16 0#16 = 0 := by simp
  rw [hz]
  show Scalar.select (if base + r.val = lo (word A B b g q 0) then 1#1 else 0#1) _ _ = (if base + r.val = lo (word A B b g q 0) then _ else
    if base + r.val = lo (word A B b g q 1) then _ else _)
  split <;> [rfl; skip]
  split <;> rfl

end Cert.Proof.Tile
-- ==== Proof.Acc.lean ====
/-
  The kernel's sums over the reals, entry by entry: a tile's product, a step's tiles, and the output from the accumulator.
-/
module

public import proofs.«01_k».proof.Proof.Tile

@[expose] public section

set_option maxRecDepth 16384

noncomputable section

namespace Cert.Proof.Acc

open Idealize.ShloMosaic hiding ix1 ix2 ix3 ix4 ix5
open Rolled Sums Tile Finset
open Idealize.ShloMosaic.ValueIdx (ix1 ix2 ix3 ix4 ix5)

/-- Row `k` of a stack of sixteen pieces is row `k % 16` of piece `k / 16`. -/
theorem stack_apply (l : List (FVec Ideal S16x128 .bf16)) (hl : l.length = 16) (k : Fin 256) (q : Fin 128) (y : FVec Ideal S16x128 .bf16)
    (hy : l[k.val / 16]? = some y) : stack l (ix2 k q) = y (ix2 (⟨k.val % 16, Nat.mod_lt _ (by decide)⟩ : Fin 16) q) := by
  have hk := k.isLt
  obtain ⟨f, rfl⟩ : ∃ f : Fin 16 → FVec Ideal S16x128 .bf16, l = List.ofFn f :=
    ⟨fun i => l[i.val]'(by omega), List.ext_getElem (by rw [List.length_ofFn, hl]) fun i h1 h2 => (List.getElem_ofFn h2).symm⟩
  have hy' : f ⟨k.val / 16, by omega⟩ = y := by
    rw [List.getElem?_ofFn] at hy; simpa [show k.val / 16 < 16 by omega] using hy
  rw [← hy']
  exact concatenate_ofFn_apply (t := S256x128) (s₁ := S16x128) 0 f (by simp only [List.ofFn_succ, List.ofFn_zero, List.map_cons, List.map_nil]; decide) rfl 16 rfl
    (ix2 k q) ⟨k.val / 16, by omega⟩ rfl (ix2 (⟨k.val % 16, Nat.mod_lt _ (by decide)⟩ : Fin 16) q) rfl
    (by intro b hb; match b with | ⟨0, _⟩ => exact absurd rfl hb | ⟨1, _⟩ => rfl)

variable (A : IVec S2x2x128x128 32) (B : IVec S1x2x128x128 32)

/-- Piece `k` of a run of dense groups, entry by entry. -/
theorem densesVal_get (n g k : ℕ) (hk : k < 2 * n) : ∃ y, (densesVal (F := Ideal) (words A B) n g)[k]? = some y ∧ ∀ (r : Fin 16) (q : Fin 128),
    y (ix2 r q) = at_ (fun s => word A B (denseBlk (g + k / 2)) (rowOf (g + k / 2)) q (Fin.ofNat 2 s)) (32 * ((g + k / 2) % 2) + 16 * (k % 2) + r.val) := by
  induction n generalizing g k with
  | zero => omega
  | succ n ih =>
    match k with
    | 0 => exact ⟨_, rfl, fun r q => piece_apply A B (32 * (g % 2)) (by omega) (denseBlk g) (rowOf g) r q⟩
    | 1 => exact ⟨_, rfl, fun r q => piece_apply A B (32 * (g % 2) + 16) (by omega) (denseBlk g) (rowOf g) r q⟩
    | k + 2 =>
      obtain ⟨y, h1, h2⟩ := ih (g + 1) k (by omega)
      refine ⟨y, h1, fun r q => (h2 r q).trans ?_⟩
      rw [show g + 1 + k / 2 = g + (k + 2) / 2 by omega, show (k + 2) % 2 = k % 2 by omega]

theorem densesVal_length (W : IVec S3x2x2x128x128 32) (n g : ℕ) : (densesVal (F := Ideal) W n g).length = 2 * n := by
  induction n generalizing g with
  | zero => rfl
  | succ n ih => show (densesVal (F := Ideal) W n (g + 1)).length + 2 = _; rw [ih]; omega

/-- Piece `k` of a run of sparse groups, entry by entry. -/
theorem sparsesVal_get (n g k : ℕ) (hk : k < 4 * n) : ∃ y, (sparsesVal (F := Ideal) (words A B) n g)[k]? = some y ∧ ∀ (r : Fin 16) (q : Fin 128),
    y (ix2 r q) = at_ (fun s => word A B 2 (rowOf (g + k / 4)) q (Fin.ofNat 2 s)) (16 * (k % 4) + r.val) := by
  induction n generalizing g k with
  | zero => omega
  | succ n ih =>
    match k with
    | 0 => exact ⟨_, rfl, fun r q => piece_apply A B 0 (by omega) 2 (rowOf g) r q⟩
    | 1 => exact ⟨_, rfl, fun r q => piece_apply A B 16 (by omega) 2 (rowOf g) r q⟩
    | 2 => exact ⟨_, rfl, fun r q => piece_apply A B 32 (by omega) 2 (rowOf g) r q⟩
    | 3 => exact ⟨_, rfl, fun r q => piece_apply A B 48 (by omega) 2 (rowOf g) r q⟩
    | k + 4 =>
      obtain ⟨y, h1, h2⟩ := ih (g + 1) k (by omega)
      refine ⟨y, h1, fun r q => (h2 r q).trans ?_⟩
      rw [show g + 1 + k / 4 = g + (k + 4) / 4 by omega, show (k + 4) % 4 = k % 4 by omega]

theorem sparsesVal_length (W : IVec S3x2x2x128x128 32) (n g : ℕ) : (sparsesVal (F := Ideal) W n g).length = 4 * n := by
  induction n generalizing g with
  | zero => rfl
  | succ n ih => show (sparsesVal (F := Ideal) W n (g + 1)).length + 4 = _; rw [ih]; omega

/-- Column `k` of a tile's dense half. -/
theorem dense_stack (t : ℕ) (k : Fin 256) (q : Fin 128) : stack (densesVal (F := Ideal) (words A B) 8 (8 * t)) (ix2 k q)
    = at_ (fun s => word A B (denseBlk (8 * t + k.val / 32)) (rowOf (8 * t + k.val / 32)) q (Fin.ofNat 2 s)) (32 * ((8 * t + k.val / 32) % 2) + k.val % 32) := by
  have hk := k.isLt
  obtain ⟨y, h1, h2⟩ := densesVal_get A B 8 (8 * t) (k.val / 16) (by omega)
  rw [stack_apply _ (densesVal_length _ _ _) k q y h1, h2]
  rw [show k.val / 16 / 2 = k.val / 32 by omega]
  congr 1
  show 32 * _ + 16 * (k.val / 16 % 2) + k.val % 16 = _
  omega

/-- Column `k` of a tile's sparse half. -/
theorem sparse_stack (t : ℕ) (k : Fin 256) (q : Fin 128) : stack (sparsesVal (F := Ideal) (words A B) 4 (4 * t)) (ix2 k q)
    = at_ (fun s => word A B 2 (rowOf (4 * t + k.val / 64)) q (Fin.ofNat 2 s)) (0 + k.val % 64) := by
  have hk := k.isLt
  obtain ⟨y, h1, h2⟩ := sparsesVal_get A B 4 (4 * t) (k.val / 16) (by omega)
  rw [stack_apply _ (sparsesVal_length _ _ _) k q y h1, h2]
  rw [show k.val / 16 / 4 = k.val / 64 by omega]
  congr 1
  show 16 * (k.val / 16 % 4) + k.val % 16 = _
  omega

/-- A tile's product: row `b` of `x` against column `q` of the two stacks side by side. -/
theorem tileProd_apply (ds ss : List (FVec Ideal S16x128 .bf16)) (x : FVec Ideal S96x256 .bf16) (b : Fin 96) (q : Fin 128) (h : Fin 2) :
    tileProd ds ss x (ix2 b (⟨128 * h.val + q.val, by omega⟩ : Fin 256))
      = ∑ k : Fin 256, x (ix2 b k) * stack (if h = 0 then ds else ss) (ix2 k q) := by
  unfold tileProd
  rw [Idealize.ShloMosaic.shapeCast_self]
  refine (Ideal.matmul_plain_apply (M := 96) (K := 256) (N := 256) none x _ _ b (⟨128 * h.val + q.val, by omega⟩ : Fin 256)).trans ?_
  have hz : constant (F := Ideal) S96x256 .f32 0x00000000#32 (ix2 b (⟨128 * h.val + q.val, by omega⟩ : Fin 256)) = 0 := by
    show Ideal.ofBits .f32 0#32 = 0; simp
  refine (congrArg (· + _) hz).trans ?_
  rw [zero_add]
  refine Finset.sum_congr rfl fun k _ => congrArg (x (ix2 b k) * ·) ?_
  have hq := q.isLt
  match h with
  | 0 =>
    exact concatenate_pair_apply_left (t := S256x256) (s₁ := S256x128) (s₂ := S256x128) 1 _ _ _ _ rfl (ix2 k q)
      (by intro b; match b with | ⟨0, _⟩ => rfl | ⟨1, _⟩ => show q.val = 128 * 0 + q.val; omega)
  | 1 =>
    exact concatenate_pair_apply_right (t := S256x256) (s₁ := S256x128) (s₂ := S256x128) 1 _ _ _ _ rfl rfl (ix2 k q)
      (by intro b hb; match b with | ⟨0, _⟩ => rfl | ⟨1, _⟩ => exact absurd rfl hb) (by show q.val + 128 = 128 * 1 + q.val; omega)

/-- What the two slots of a group add. -/
def pair (X : ℕ → EReal) (first base width : ℕ) (w : ℕ → BitVec 32) : EReal :=
  entry X first base width w 0 + entry X first base width w 1

/-- Tile `t`'s product. -/
def tileAt (W : IVec S3x2x2x128x128 32) (X : FVec Ideal S96x8192 .bf16) (t : ℕ) : FVec Ideal S96x256 .f32 :=
  tileProd (densesVal W 8 (8 * t)) (sparsesVal W 4 (4 * t)) fun x => X ((xR ⟨t % 32, Nat.mod_lt _ (by decide)⟩).toLoadRect.idx x)

/-- The tiles of a step, summed. -/
theorem tilesVal_apply (W : IVec S3x2x2x128x128 32) (X : FVec Ideal S96x8192 .bf16) (n t : ℕ) (acc : FVec Ideal S96x256 .f32) (i : S96x256.Idx) :
    tilesVal W X n t acc i = acc i + ∑ u ∈ range n, tileAt W X (t + u) i := by
  induction n generalizing t acc with
  | zero => simp [tilesVal]
  | succ n ih =>
    rw [tilesVal, ih, Finset.sum_range_succ', add_comm (∑ k ∈ range n, _), ← add_assoc]
    have e : ∀ u, t + 1 + u = t + (u + 1) := fun u => by omega
    rw [Finset.sum_congr rfl fun u _ => congrArg (fun v => tileAt W X v i) (e u)]
    rfl

/-- Row `b` of tile `t` of the staged block of `x`. -/
theorem xR_apply (X : FVec Ideal S96x8192 .bf16) (Xn : ℕ → EReal) (b : Fin 96) (hX : ∀ n : Fin 8192, X (ix2 b n) = Xn n.val)
    (t : ℕ) (ht : t < 32) (k : Fin 256) :
    X ((xR ⟨t % 32, Nat.mod_lt _ (by decide)⟩).toLoadRect.idx (ix2 b k)) = Xn (256 * t + k.val) := by
  have hk := k.isLt
  rw [← hX ⟨256 * t + k.val, by omega⟩]
  refine congrArg X (funext fun a => Fin.ext ?_)
  match a with
  | ⟨0, _⟩ => show 0 + 1 * b.val = b.val; omega
  | ⟨1, _⟩ => show 256 * (t % 32) + 1 * k.val = 256 * t + k.val; omega

/-- The step's sum at a dense lane: over the step's 256 dense groups. -/
theorem step_dense (X : FVec Ideal S96x8192 .bf16) (Xn : ℕ → EReal) (b : Fin 96) (hX : ∀ n : Fin 8192, X (ix2 b n) = Xn n.val) (q : Fin 128) :
    tilesVal (words A B) X 32 0 (zeroAcc (F := Ideal)) (ix2 b (⟨128 * 0 + q.val, by omega⟩ : Fin 256))
      = ∑ g ∈ range 256, pair Xn (g * 32) (32 * (g % 2)) 32 (fun s => word A B (denseBlk g) (rowOf g) q (Fin.ofNat 2 s)) := by
  rw [tilesVal_apply]
  have hz : zeroAcc (F := Ideal) (ix2 b (⟨128 * 0 + q.val, by omega⟩ : Fin 256)) = 0 := by show Ideal.ofBits .f32 0#32 = 0; simp
  rw [hz, zero_add]
  refine Eq.trans ?_ (sum_range_mul _ 32 8).symm
  refine Finset.sum_congr rfl fun t ht => ?_
  have ht := Finset.mem_range.1 ht
  rw [Nat.zero_add]
  refine (tileProd_apply _ _ _ b q 0).trans ?_
  rw [if_pos rfl]
  rw [sum_fin _ (fun k => Xn (256 * t + k) * at_ (fun s => word A B (denseBlk (8 * t + k / 32)) (rowOf (8 * t + k / 32)) q (Fin.ofNat 2 s)) (32 * ((8 * t + k / 32) % 2) + k % 32))
    (fun k => by rw [dense_stack]; exact congrArg (· * _) (xR_apply X Xn b hX t ht k))]
  refine (sum_range_mul _ 8 32).trans ?_
  refine Finset.sum_congr rfl fun u hu => ?_
  have hu := Finset.mem_range.1 hu
  rw [pair, ← sum_expand]
  refine Finset.sum_congr rfl fun j hj => ?_
  have hj := Finset.mem_range.1 hj
  rw [show (u * 32 + j) / 32 = u by omega, show (u * 32 + j) % 32 = j by omega, show 8 * 32 * t + (u * 32 + j) = (t * 8 + u) * 32 + j by omega,
    show 8 * t + u = t * 8 + u by omega]

/-- The step's sum at a sparse lane: over the step's 128 sparse groups. -/
theorem step_sparse (X : FVec Ideal S96x8192 .bf16) (Xn : ℕ → EReal) (b : Fin 96) (hX : ∀ n : Fin 8192, X (ix2 b n) = Xn n.val) (q : Fin 128) :
    tilesVal (words A B) X 32 0 (zeroAcc (F := Ideal)) (ix2 b (⟨128 * 1 + q.val, by omega⟩ : Fin 256))
      = ∑ g ∈ range 128, pair Xn (g * 64) 0 64 (fun s => word A B 2 (rowOf g) q (Fin.ofNat 2 s)) := by
  rw [tilesVal_apply]
  have hz : zeroAcc (F := Ideal) (ix2 b (⟨128 * 1 + q.val, by omega⟩ : Fin 256)) = 0 := by show Ideal.ofBits .f32 0#32 = 0; simp
  rw [hz, zero_add]
  refine Eq.trans ?_ (sum_range_mul _ 32 4).symm
  refine Finset.sum_congr rfl fun t ht => ?_
  have ht := Finset.mem_range.1 ht
  rw [Nat.zero_add]
  refine (tileProd_apply _ _ _ b q 1).trans ?_
  rw [if_neg (by decide)]
  rw [sum_fin _ (fun k => Xn (256 * t + k) * at_ (fun s => word A B 2 (rowOf (4 * t + k / 64)) q (Fin.ofNat 2 s)) (0 + k % 64))
    (fun k => by rw [sparse_stack]; exact congrArg (· * _) (xR_apply X Xn b hX t ht k))]
  refine (sum_range_mul _ 4 64).trans ?_
  refine Finset.sum_congr rfl fun u hu => ?_
  have hu := Finset.mem_range.1 hu
  rw [pair, ← sum_expand]
  refine Finset.sum_congr rfl fun j hj => ?_
  have hj := Finset.mem_range.1 hj
  rw [show (u * 64 + j) / 64 = u by omega, show (u * 64 + j) % 64 = j by omega, show 4 * 64 * t + (u * 64 + j) = (t * 4 + u) * 64 + j by omega,
    show 4 * t + u = t * 4 + u by omega]

/-! ## The output -/

/-- The output row of dense position `rho`. -/
def denseRow (perm : ℕ → BitVec 32) (rho : ℕ) : BitVec 32 := perm (if rho < 64 then rho else 64 + rho)
/-- The output row of sparse position `rho`. -/
def sparseRow (perm : ℕ → BitVec 32) (rho : ℕ) : BitVec 32 := perm (if rho < 64 then 64 + rho else 128 + rho)

/-- The lanes below 64 are told from the rest. -/
theorem slt64 : ∀ q : Fin 128, IntOp.cmpi .slt (BitVec.ofNat 32 q.val) 64#32 = if q.val < 64 then 1#1 else 0#1 := by decide

theorem select64 {α : Type} (q : Fin 128) (x y : α) :
    Scalar.select (IntOp.cmpi .slt (BitVec.ofNat 32 q.val) 64#32) x y = if q.val < 64 then x else y := by
  rw [slt64]; split <;> rfl

/-- A row of 128 lanes rotated by 64. -/
theorem rot64 (x : IVec S1x128 32) (q : Fin 128) (h : S1x128.Rotates 1 none) (k : Fin 128) (hk : k.val = (q.val + 64) % 128) :
    dynamicRotate (s := S1x128) 1 64#32 none x h (ix2 (0 : Fin 1) q) = x (ix2 (0 : Fin 1) k) := by
  refine congrArg x (funext fun a => ?_)
  match a with
  | ⟨0, _⟩ => rfl
  | ⟨1, _⟩ =>
    apply Fin.ext
    refine (congrArg Fin.val (if_pos rfl)).trans ?_
    show (q.val + 128 - (64 + 0) % 128) % 128 = k.val
    omega

/-- The lanes' rows: the dense positions' rows, then the sparse ones'. -/
theorem laneRows_apply (p0 p1 : IVec S1x128 32) (perm : ℕ → BitVec 32) (h0 : ∀ q : Fin 128, p0 (ix2 (0 : Fin 1) q) = perm q.val)
    (h1 : ∀ q : Fin 128, p1 (ix2 (0 : Fin 1) q) = perm (128 + q.val)) (q : Fin 128) (h : Fin 2) :
    laneRows p0 p1 (ix2 (0 : Fin 1) (⟨128 * h.val + q.val, by omega⟩ : Fin 256)) = if h = 0 then denseRow perm q.val else sparseRow perm q.val := by
  have hq := q.isLt
  unfold laneRows
  rw [Idealize.ShloMosaic.shapeCast_self, Idealize.ShloMosaic.shapeCast_self]
  match h with
  | 0 =>
    refine (concatenate_pair_apply_left (t := S1x256) (s₁ := S1x128) (s₂ := S1x128) 1 _ _ _ _ rfl (ix2 (0 : Fin 1) q)
      (by intro b; match b with | ⟨0, _⟩ => rfl | ⟨1, _⟩ => show q.val = 128 * 0 + q.val; omega)).trans ?_
    show Scalar.select (IntOp.cmpi .slt (iota .tc S1x128 32 [1] _ (ix2 (0 : Fin 1) q)) 64#32) (p0 (ix2 (0 : Fin 1) q)) (dynamicRotate (s := S1x128) 1 64#32 none p1 _ (ix2 (0 : Fin 1) q)) = _
    rw [iota_single_apply]
    refine (select64 q _ _).trans ?_
    rw [if_pos rfl, denseRow]
    split
    · exact h0 q
    · rw [rot64 p1 q _ ⟨q.val - 64, by omega⟩ (by show q.val - 64 = _; omega), h1]; congr 1; show 128 + (q.val - 64) = _; omega
  | 1 =>
    refine (concatenate_pair_apply_right (t := S1x256) (s₁ := S1x128) (s₂ := S1x128) 1 _ _ _ _ rfl rfl (ix2 (0 : Fin 1) q)
      (by intro b hb; match b with | ⟨0, _⟩ => rfl | ⟨1, _⟩ => exact absurd rfl hb) (by show q.val + 128 = 128 * 1 + q.val; omega)).trans ?_
    show Scalar.select (IntOp.cmpi .slt (iota .tc S1x128 32 [1] _ (ix2 (0 : Fin 1) q)) 64#32) (dynamicRotate (s := S1x128) 1 64#32 none p0 _ (ix2 (0 : Fin 1) q)) (p1 (ix2 (0 : Fin 1) q)) = _
    rw [iota_single_apply]
    refine (select64 q _ _).trans ?_
    rw [if_neg (show ¬ (1 : Fin 2) = 0 by decide), sparseRow]
    split
    · rw [rot64 p0 q _ ⟨q.val + 64, by omega⟩ (by show q.val + 64 = _; omega), h0]; congr 1; show q.val + 64 = _; omega
    · exact h1 q

/-- The one-hot entry. -/
theorem onehot (a b : BitVec 32) : (((BitVec.setWidth 32 (IntOp.cmpi .eq a b)).toInt : ℝ) : EReal) = if b = a then 1 else 0 := by
  by_cases h : a = b
  · subst h; simp [IntOp.cmpi]
  · rw [if_neg (fun e => h e.symm)]
    have : IntOp.cmpi .eq a b = 0#1 := by
      show BitVec.ofBool (a == b) = 0#1
      rw [beq_eq_false_iff_ne.2 h]; rfl
    rw [this]; simp

/-- The output: every lane whose row is `r` adds its accumulator. -/
theorem outOf_apply (acc : FVec Ideal S96x256 .f32) (p0 p1 : IVec S1x128 32) (perm : ℕ → BitVec 32)
    (h0 : ∀ q : Fin 128, p0 (ix2 (0 : Fin 1) q) = perm q.val) (h1 : ∀ q : Fin 128, p1 (ix2 (0 : Fin 1) q) = perm (128 + q.val))
    (b : Fin 96) (accD accS : ℕ → EReal)
    (hD : ∀ q : Fin 128, acc (ix2 b (⟨128 * 0 + q.val, by omega⟩ : Fin 256)) = accD q.val)
    (hS : ∀ q : Fin 128, acc (ix2 b (⟨128 * 1 + q.val, by omega⟩ : Fin 256)) = accS q.val) (r : Fin 256) :
    outOf acc p0 p1 (ix2 b r) = (∑ rho ∈ range 128, if denseRow perm rho = BitVec.ofNat 32 r.val then accD rho else 0)
      + ∑ rho ∈ range 128, if sparseRow perm rho = BitVec.ofNat 32 r.val then accS rho else 0 := by
  unfold outOf
  refine (Ideal.matmul_transposedRhs_apply (M := 96) (K := 256) (N := 256) none acc _ _ b r).trans ?_
  have hz : constant (F := Ideal) S96x256 .f32 0x00000000#32 (ix2 b r) = 0 := by show Ideal.ofBits .f32 0#32 = 0; simp
  refine (congrArg (· + _) hz).trans ?_
  rw [zero_add]
  have e : ∀ q : Fin 256, acc (ix2 b q) * (truncf (F := Ideal) .bf16 (sitofp .f32 (extui 32 (cmpi .eq (iota .tc S256x256 32 [0] (by decide))
        (broadcastTo (s := S1x256) S256x256 (laneRows p0 p1) (by decide))) (by decide))) (by decide)) (ix2 r q)
      = if laneRows p0 p1 (ix2 (0 : Fin 1) q) = BitVec.ofNat 32 r.val then acc (ix2 b q) else 0 := by
    intro q
    have : (truncf (F := Ideal) .bf16 (sitofp .f32 (extui 32 (cmpi .eq (iota .tc S256x256 32 [0] (by decide))
        (broadcastTo (s := S1x256) S256x256 (laneRows p0 p1) (by decide))) (by decide))) (by decide)) (ix2 r q)
        = if laneRows p0 p1 (ix2 (0 : Fin 1) q) = BitVec.ofNat 32 r.val then (1 : EReal) else 0 := by
      refine Eq.trans ?_ (onehot (BitVec.ofNat 32 r.val) (laneRows p0 p1 (ix2 (0 : Fin 1) q)))
      show (((BitVec.setWidth 32 (IntOp.cmpi .eq (iota .tc S256x256 32 [0] _ (ix2 r q)) (broadcastTo (s := S1x256) S256x256 (laneRows p0 p1) _ (ix2 r q)))).toInt : ℝ) : EReal) = _
      rw [iota_single_apply, broadcastTo_apply _ _ _ (ix2 (0 : Fin 1) q) (by intro b; match b with | ⟨0, _⟩ => rfl | ⟨1, _⟩ => rfl)]
    rw [this]; split
    · exact mul_one _
    · exact mul_zero _
  refine (Finset.sum_congr rfl fun q _ => e q).trans ?_
  refine (Fin.sum_univ_add (a := 128) (b := 128) (fun q : Fin 256 => if laneRows p0 p1 (ix2 (0 : Fin 1) q) = BitVec.ofNat 32 r.val then acc (ix2 b q) else 0)).trans ?_
  have key := laneRows_apply p0 p1 perm h0 h1
  congr 1
  · refine sum_fin _ _ fun q => ?_
    have hq : (Fin.castAdd 128 q : Fin (128 + 128)) = (⟨128 * (0 : Fin 2).val + q.val, by have := q.isLt; show 128 * 0 + q.val < 256; omega⟩ : Fin 256) := Fin.ext (by show q.val = 128 * 0 + q.val; omega)
    rw [hq, key q 0, if_pos rfl]
    rw [show acc (ix2 b (⟨128 * (0 : Fin 2).val + q.val, _⟩ : Fin 256)) = _ from hD q]
  · refine sum_fin _ _ fun q => ?_
    have hq : (Fin.natAdd 128 q : Fin (128 + 128)) = (⟨128 * (1 : Fin 2).val + q.val, by have := q.isLt; show 128 * 1 + q.val < 256; omega⟩ : Fin 256) := Fin.ext (by show 128 + q.val = 128 * 1 + q.val; omega)
    rw [hq, key q 1, if_neg (show ¬ (1 : Fin 2) = 0 by decide)]
    rw [show acc (ix2 b (⟨128 * (1 : Fin 2).val + q.val, _⟩ : Fin 256)) = _ from hS q]

end Cert.Proof.Acc
-- ==== Proof.Result.lean ====
/-
  The kernel's result over the reals: the array it returns, entry by entry, as the sums over the two tables.
-/
module

public import proofs.«01_k».proof.Proof.Acc
public import proofs.«01_k».proof.Proof.KernelIdeal.Run
public import Idealize.ShloMosaic.Lib.StableHlo.Run

@[expose] public section

set_option maxRecDepth 16384

noncomputable section

namespace Cert.Proof.Result

open Idealize.ShloMosaic hiding ix1 ix2 ix3 ix4 ix5
open Rolled Sums Tile Acc Finset
open Idealize.ShloMosaic.ValueIdx (ix1 ix2 ix3 ix4 ix5)

/-! ## The claim's value -/

/-- Column `b` of `x` by row number. -/
def xN (x : (⟨2, ![262144, 96]⟩ : Shape).Idx → EReal) (b : Fin 96) (n : ℕ) : EReal := x (ix2 (Fin.ofNat 262144 n) b)
/-- The dense table's word of slot `s`, position `rho`, group `G`. -/
def denseWord (pd : (⟨4, ![64, 2, 128, 128]⟩ : Shape).Idx → BitVec 32) (s rho G : ℕ) : BitVec 32 :=
  pd (ix4 (Fin.ofNat 64 (G / 128)) (Fin.ofNat 2 s) (Fin.ofNat 128 rho) (Fin.ofNat 128 G))
/-- The sparse table's word of slot `s`, position `rho`, group `G`. -/
def sparseWord (ps : (⟨4, ![32, 2, 128, 128]⟩ : Shape).Idx → BitVec 32) (s rho G : ℕ) : BitVec 32 :=
  ps (ix4 (Fin.ofNat 32 (G / 128)) (Fin.ofNat 2 s) (Fin.ofNat 128 rho) (Fin.ofNat 128 G))
/-- The permutation by position. -/
def permN (perm : (⟨1, ![256]⟩ : Shape).Idx → BitVec 32) (n : ℕ) : BitVec 32 := perm (ix1 (Fin.ofNat 256 n))

/-- The product: column `b` of `x`, output row `r`. -/
def value (x : (⟨2, ![262144, 96]⟩ : Shape).Idx → EReal) (pd : (⟨4, ![64, 2, 128, 128]⟩ : Shape).Idx → BitVec 32)
    (ps : (⟨4, ![32, 2, 128, 128]⟩ : Shape).Idx → BitVec 32) (perm : (⟨1, ![256]⟩ : Shape).Idx → BitVec 32) (b : Fin 96) (r : Fin 256) : EReal :=
  tableSum (xN x b) 32 8192 (denseWord pd) (denseRow (permN perm)) r.val
    + tableSum (xN x b) 64 4096 (sparseWord ps) (sparseRow (permN perm)) r.val

end Cert.Proof.Result

namespace Cert.KernelIdeal.Run

open Idealize.ShloMosaic hiding ix1 ix2 ix3 ix4 ix5
open Idealize.ShloMosaic.TcCoe
open Idealize.ShloMosaic.Pipeline (Dat)
open Cert.KernelIdeal Cert.KernelIdeal.Gen Cert.Proof Cert.Proof.Sums Cert.Proof.Tile Cert.Proof.Acc Cert.Proof.Result Finset
open Idealize.ShloMosaic.ValueIdx (ix1 ix2 ix3 ix4 ix5)

variable (m : (ℓ : Loc nD τ sig) → Buf (Elt Ideal) ℓ)

theorem index0 : ∀ t : Fin cfg0.N, win0_0.index t 0 = t.val ∧ win0_0.index t 1 = 0 ∧ win0_0.index t 2 = 0 ∧ win0_0.index t 3 = 0 := by
  show ∀ t : Fin grid0.N, _
  decide +kernel
theorem index1 : ∀ t : Fin cfg0.N, win0_1.index t 0 = t.val ∧ win0_1.index t 1 = 0 ∧ win0_1.index t 2 = 0 ∧ win0_1.index t 3 = 0 := by
  show ∀ t : Fin grid0.N, _
  decide +kernel
theorem index2 : ∀ t : Fin cfg0.N, win0_2.index t 0 = 0 ∧ win0_2.index t 1 = t.val := by
  show ∀ t : Fin grid0.N, _
  decide +kernel
theorem index3 : ∀ t : Fin cfg0.N, win0_3.index t 0 = 0 ∧ win0_3.index t 1 = 0 := by
  show ∀ t : Fin grid0.N, _
  decide +kernel
theorem index4 : ∀ t : Fin cfg0.N, win0_4.index t 0 = 0 ∧ win0_4.index t 1 = 0 := by
  show ∀ t : Fin grid0.N, _
  decide +kernel

/-- The host's transpose of `x`. -/
theorem V_main_v0 (c : Dev nD) : V m c main_v0 = (transpose S96x262144 [1, 0] (m ((c : Thread nD τ).loc main_arg0)) transposes_S262144x96_S96x262144_1_0 : (⟨S96x262144, .bf16⟩ : BufTy).Contents (Elt Ideal)) := by
  unfold V hostOps0
  rfl

/-- The host's reshape of the permutation. -/
theorem V_main_v1 (c : Dev nD) : V m c main_v1 = (shapeCast (s := S256) S2x128 (m ((c : Thread nD τ).loc main_arg3)) shapeCasts_S256_S2x128 : (⟨S2x128, .i32⟩ : BufTy).Contents (Elt Ideal)) := by
  unfold V hostOps0
  rfl

/-- The staged dense blocks at point `t`. -/
theorem iblk0 (c : Dev nD) (t : Fin cfg0.N) (b s : Fin 2) (q g : Fin 128) (k : Fin 64) (hk : k.val = 2 * t.val + b.val) :
    (iblk m c 0 t : IVec Rolled.S2x2x128x128 32) (ix4 b s q g) = m ((c : Thread nD τ).loc main_arg1) (ix4 k s q g) := by
  obtain ⟨h0, h1, h2, h3⟩ := index0 t
  unfold iblk
  rw [View.read_apply]
  show V m c main_arg1 _ = _
  rw [V_main_arg1]
  refine congrArg (m ((c : Thread nD τ).loc main_arg1)) (funext fun a => Fin.ext ?_)
  match a with
  | ⟨0, _⟩ => show win0_0.index t 0 * 2 + 1 * b.val = k.val; rw [h0]; omega
  | ⟨1, _⟩ => show win0_0.index t 1 * 2 + 1 * s.val = s.val; rw [h1]; omega
  | ⟨2, _⟩ => show win0_0.index t 2 * 128 + 1 * q.val = q.val; rw [h2]; omega
  | ⟨3, _⟩ => show win0_0.index t 3 * 128 + 1 * g.val = g.val; rw [h3]; omega

/-- The staged sparse block at point `t`. -/
theorem iblk1 (c : Dev nD) (t : Fin cfg0.N) (s : Fin 2) (q g : Fin 128) (k : Fin 32) (hk : k.val = t.val) :
    (iblk m c 1 t : IVec Rolled.S1x2x128x128 32) (ix4 (0 : Fin 1) s q g) = m ((c : Thread nD τ).loc main_arg2) (ix4 k s q g) := by
  obtain ⟨h0, h1, h2, h3⟩ := index1 t
  unfold iblk
  rw [View.read_apply]
  show V m c main_arg2 _ = _
  rw [V_main_arg2]
  refine congrArg (m ((c : Thread nD τ).loc main_arg2)) (funext fun a => Fin.ext ?_)
  match a with
  | ⟨0, _⟩ => show win0_1.index t 0 * 1 + 1 * 0 = k.val; rw [h0]; omega
  | ⟨1, _⟩ => show win0_1.index t 1 * 2 + 1 * s.val = s.val; rw [h1]; omega
  | ⟨2, _⟩ => show win0_1.index t 2 * 128 + 1 * q.val = q.val; rw [h2]; omega
  | ⟨3, _⟩ => show win0_1.index t 3 * 128 + 1 * g.val = g.val; rw [h3]; omega

/-- The staged block of `x` at point `t`. -/
theorem iblk2 (c : Dev nD) (t : Fin cfg0.N) (b : Fin 96) (n : Fin 8192) :
    (iblk m c 2 t : FVec Ideal Rolled.S96x8192 .bf16) (ix2 b n) = xN (m ((c : Thread nD τ).loc main_arg0)) b (8192 * t.val + n.val) := by
  obtain ⟨h0, h1⟩ := index2 t
  have ht : t.val < 32 := t.isLt
  have hn := n.isLt
  unfold iblk
  rw [View.read_apply]
  show V m c main_v0 _ = _
  rw [V_main_v0]
  refine transpose_apply _ _ _ _ _ ?_
  intro a
  match a with
  | ⟨0, _⟩ => show b.val = win0_2.index t 0 * 96 + 1 * b.val; rw [h0]; omega
  | ⟨1, _⟩ => show (8192 * t.val + n.val) % 262144 = win0_2.index t 1 * 8192 + 1 * n.val; rw [h1]; omega

/-- The staged permutation's halves. -/
theorem iblk3 (c : Dev nD) (t : Fin cfg0.N) (h : Fin 2) (q : Fin 128) :
    Rolled.permHalf (iblk m c 3 t) h (ix2 (0 : Fin 1) q) = permN (m ((c : Thread nD τ).loc main_arg3)) (128 * h.val + q.val) := by
  obtain ⟨h0, h1⟩ := index3 t
  have hq := q.isLt
  have hh := h.isLt
  unfold Rolled.permHalf iblk
  rw [View.read_apply]
  show V m c main_v1 _ = _
  rw [V_main_v1]
  refine shapeCast_apply _ _ _ _ ?_
  rw [Shape.rowMajor_val_one, Shape.rowMajor_val_two]
  show (128 * h.val + q.val) % 256 = (win0_3.index t 0 * 2 + 1 * (h.val + 1 * 0)) * 128 + (win0_3.index t 1 * 128 + 1 * (0 + 1 * q.val))
  rw [h0, h1]; omega

/-- A step's words, dense. -/
theorem word_dense (c : Dev nD) (t : Fin cfg0.N) (g : ℕ) (hg : g < 256) (q : Fin 128) (s : ℕ) :
    word (iblk m c 0 t) (iblk m c 1 t) (Rolled.denseBlk g) (Rolled.rowOf g) q (Fin.ofNat 2 s)
      = denseWord (m ((c : Thread nD τ).loc main_arg1)) s q.val (t.val * 256 + g) := by
  have ht : t.val < 32 := t.isLt
  have hq := q.isLt
  unfold word denseWord
  have e1 : (Fin.ofNat 128 q.val : Fin 128) = q := Fin.ext (Nat.mod_eq_of_lt hq)
  have e2 : (Fin.ofNat 128 (t.val * 256 + g) : Fin 128) = Rolled.rowOf g := Fin.ext (by show (t.val * 256 + g) % 128 = g % 128; omega)
  rw [e1, e2]
  have key : ∀ b : Fin 2, g / 128 = b.val → (Rolled.denseBlk g).val = b.val →
      (iblk m c 0 t : IVec Rolled.S2x2x128x128 32) (ix4 b (Fin.ofNat 2 s) q (Rolled.rowOf g))
        = m ((c : Thread nD τ).loc main_arg1) (ix4 (Fin.ofNat 64 ((t.val * 256 + g) / 128)) (Fin.ofNat 2 s) q (Rolled.rowOf g)) := fun b hb _ =>
    iblk0 m c t b _ q _ _ (by show (t.val * 256 + g) / 128 % 64 = _; omega)
  have hb : (Rolled.denseBlk g).val = g / 128 := by show g / 128 % 2 = g / 128; omega
  rcases (by omega : g / 128 = 0 ∨ g / 128 = 1) with h | h
  · rw [show Rolled.denseBlk g = 0 from Fin.ext (hb.trans h)]
    refine Eq.trans ?_ (key 0 h (hb.trans h))
    refine congrArg (iblk m c 0 t : IVec Rolled.S2x2x128x128 32) (funext fun a => Fin.ext ?_)
    match a with
    | ⟨0, _⟩ => rfl
    | ⟨1, _⟩ => show (Fin.ofNat 2 s).val + 1 * 0 = (Fin.ofNat 2 s).val; omega
    | ⟨2, _⟩ => show 0 + 1 * q.val = q.val; omega
    | ⟨3, _⟩ => show 0 + 1 * (Rolled.rowOf g).val = (Rolled.rowOf g).val; omega
  · rw [show Rolled.denseBlk g = 1 from Fin.ext (hb.trans h)]
    refine Eq.trans ?_ (key 1 h (hb.trans h))
    refine congrArg (iblk m c 0 t : IVec Rolled.S2x2x128x128 32) (funext fun a => Fin.ext ?_)
    match a with
    | ⟨0, _⟩ => rfl
    | ⟨1, _⟩ => show (Fin.ofNat 2 s).val + 1 * 0 = (Fin.ofNat 2 s).val; omega
    | ⟨2, _⟩ => show 0 + 1 * q.val = q.val; omega
    | ⟨3, _⟩ => show 0 + 1 * (Rolled.rowOf g).val = (Rolled.rowOf g).val; omega

/-- A step's words, sparse. -/
theorem word_sparse (c : Dev nD) (t : Fin cfg0.N) (g : ℕ) (hg : g < 128) (q : Fin 128) (s : ℕ) :
    word (iblk m c 0 t) (iblk m c 1 t) 2 (Rolled.rowOf g) q (Fin.ofNat 2 s)
      = sparseWord (m ((c : Thread nD τ).loc main_arg2)) s q.val (t.val * 128 + g) := by
  have ht : t.val < 32 := t.isLt
  have hq := q.isLt
  unfold word sparseWord
  have e1 : (Fin.ofNat 128 q.val : Fin 128) = q := Fin.ext (Nat.mod_eq_of_lt hq)
  have e2 : (Fin.ofNat 128 (t.val * 128 + g) : Fin 128) = Rolled.rowOf g := Fin.ext (by show (t.val * 128 + g) % 128 = g % 128; omega)
  rw [e1, e2]
  refine Eq.trans ?_ (iblk1 m c t _ q _ _ (by show (t.val * 128 + g) / 128 % 32 = _; omega))
  refine congrArg (iblk m c 1 t : IVec Rolled.S1x2x128x128 32) (funext fun a => Fin.ext ?_)
  match a with
  | ⟨0, _⟩ => rfl
  | ⟨1, _⟩ => show (Fin.ofNat 2 s).val + 1 * 0 = (Fin.ofNat 2 s).val; omega
  | ⟨2, _⟩ => show 0 + 1 * q.val = q.val; omega
  | ⟨3, _⟩ => show 0 + 1 * (Rolled.rowOf g).val = (Rolled.rowOf g).val; omega

/-- A group's pair in a block of columns is the pair in the whole. -/
theorem pair_shift (X : ℕ → EReal) (k first base width : ℕ) (w : ℕ → BitVec 32) :
    pair (fun n => X (k + n)) first base width w = pair X (k + first) base width w := by
  unfold pair entry
  simp only [Nat.add_assoc]

/-- The accumulator after `n` points, at a dense lane. -/
theorem acc_dense (c : Dev nD) (b : Fin 96) (q : Fin 128) (n : ℕ) (hn : n ≤ 32) :
    accAt m c n (ix2 b (⟨128 * 0 + q.val, by omega⟩ : Fin 256))
      = ∑ G ∈ range (n * 256), pair (xN (m ((c : Thread nD τ).loc main_arg0)) b) (G * 32) (G * 32 % 64) 32
          (fun s => denseWord (m ((c : Thread nD τ).loc main_arg1)) s q.val G) := by
  induction n with
  | zero =>
    show Ideal.ofBits .f32 0#32 = _; simp
  | succ n ih =>
    have hlt : n < cfg0.N := by show n < 32; omega
    refine (congrFun (accAt_succ m c ⟨n, hlt⟩) _).trans ?_
    rw [show (n + 1) * 256 = n * 256 + 256 by omega, Finset.sum_range_add]
    show accAt m c n _ + stepAt m c ⟨n, hlt⟩ _ = _
    rw [ih (by omega)]
    refine congrArg (_ + ·) ?_
    refine (step_dense _ _ (iblk m c 2 ⟨n, hlt⟩) (fun k => xN (m ((c : Thread nD τ).loc main_arg0)) b (8192 * n + k)) b (fun k => iblk2 m c ⟨n, hlt⟩ b k) q).trans ?_
    refine Finset.sum_congr rfl fun g hg => ?_
    have hg := Finset.mem_range.1 hg
    rw [pair_shift]
    simp only [word_dense m c ⟨n, hlt⟩ g hg q]
    rw [show 8192 * n + g * 32 = (n * 256 + g) * 32 by omega, show (n * 256 + g) * 32 % 64 = 32 * (g % 2) by omega]

/-- The accumulator after `n` points, at a sparse lane. -/
theorem acc_sparse (c : Dev nD) (b : Fin 96) (q : Fin 128) (n : ℕ) (hn : n ≤ 32) :
    accAt m c n (ix2 b (⟨128 * 1 + q.val, by omega⟩ : Fin 256))
      = ∑ G ∈ range (n * 128), pair (xN (m ((c : Thread nD τ).loc main_arg0)) b) (G * 64) (G * 64 % 64) 64
          (fun s => sparseWord (m ((c : Thread nD τ).loc main_arg2)) s q.val G) := by
  induction n with
  | zero =>
    show Ideal.ofBits .f32 0#32 = _; simp
  | succ n ih =>
    have hlt : n < cfg0.N := by show n < 32; omega
    refine (congrFun (accAt_succ m c ⟨n, hlt⟩) _).trans ?_
    rw [show (n + 1) * 128 = n * 128 + 128 by omega, Finset.sum_range_add]
    show accAt m c n _ + stepAt m c ⟨n, hlt⟩ _ = _
    rw [ih (by omega)]
    refine congrArg (_ + ·) ?_
    refine (step_sparse _ _ (iblk m c 2 ⟨n, hlt⟩) (fun k => xN (m ((c : Thread nD τ).loc main_arg0)) b (8192 * n + k)) b (fun k => iblk2 m c ⟨n, hlt⟩ b k) q).trans ?_
    refine Finset.sum_congr rfl fun g hg => ?_
    have hg := Finset.mem_range.1 hg
    rw [pair_shift]
    simp only [word_sparse m c ⟨n, hlt⟩ g hg q]
    rw [show 8192 * n + g * 64 = (n * 128 + g) * 64 by omega, show (n * 128 + g) * 64 % 64 = 0 by omega]

/-- The last point. -/
def last : Fin cfg0.N := ⟨31, by decide⟩

/-- The result as the array's contents. -/
def result (c : Dev nD) : Buf (Elt Ideal) ((c : Thread nD τ).loc main_v2) := outAt m c last

/-- The result, entry by entry. -/
theorem result_apply (c : Dev nD) (b : Fin 96) (r : Fin 256) :
    result m c (ix2 b r) = value (m ((c : Thread nD τ).loc main_arg0)) (m ((c : Thread nD τ).loc main_arg1))
      (m ((c : Thread nD τ).loc main_arg2)) (m ((c : Thread nD τ).loc main_arg3)) b r := by
  refine (outOf_apply (accAt m c 32) _ _ (permN (m ((c : Thread nD τ).loc main_arg3)))
    (fun q => (iblk3 m c last 0 q).trans (by rw [show 128 * (0 : Fin 2).val + q.val = q.val from by show 128 * 0 + q.val = _; omega]))
    (fun q => (iblk3 m c last 1 q).trans (by rw [show 128 * (1 : Fin 2).val + q.val = 128 + q.val from by show 128 * 1 + q.val = _; omega]))
    b _ _ (fun q => acc_dense m c b q 32 le_rfl) (fun q => acc_sparse m c b q 32 le_rfl) r).trans rfl

theorem flushed_eq (c : Dev nD) (t : Fin cfg0.N) (hf : (cfg0.win 4).flush t = true) :
    (dats m 0 c).flushed 4 t = ((cfg0.win 4).blk t).view.read (Elt Ideal) (result m c) := by
  have ht : t.val < 32 := t.isLt
  have h3 : t.val = 31 := by have := (flush0_4 t).mp hf; omega
  obtain rfl : t = last := Fin.ext h3
  show (cfg0.win 4).cut (grid0.coords last) ((dats m 0 c).after 4 last) = _
  rw [after_4]
  have hz' : (fun a => win0_4.index last a * main_v2.ty.shape.size a) = fun _ => 0 := funext fun a => by fin_cases a <;> decide
  exact (Memref.read_access_unit_zero (Elt Ideal) main_v2 hz' (fun a => by rw [congrFun hz' a]; simp) (result m c)).symm

/-- The result array at the end of the run. -/
theorem final_4 (c : Dev nD) : (dats m 0 c).arrAt 4 cfg0.N = result m c :=
  (dats m 0 c).arrAt_eq_of_cover 4 (result m c) (flushed_eq m c) fun i =>
    ⟨last, (flush0_4 last).mpr rfl, by
      show i ∈ ((View.whole main_v2).slice (win0_4.rect last)).set
      rw [View.set_slice_whole, Rect.mem_set_unit]
      intro a
      have h0 : (i 0 : Nat) < 96 := (i 0).isLt
      have h1 : (i 1 : Nat) < 256 := (i 1).isLt
      obtain ⟨e0, e1⟩ := index4 last
      match a with
      | ⟨0, _⟩ => show win0_4.index last 0 * 96 ≤ (i 0 : Nat) ∧ (i 0 : Nat) < win0_4.index last 0 * 96 + 96
                  rw [e0]; omega
      | ⟨1, _⟩ => show win0_4.index last 1 * 256 ≤ (i 1 : Nat) ∧ (i 1 : Nat) < win0_4.index last 1 * 256 + 256
                  rw [e1]; omega⟩

end Cert.KernelIdeal.Run
-- ==== Proof.Entry.lean ====
/-
  One table entry of the reference, on words: the column it names, whether it counts, and its weight, as the reference's
  integer operations compute them, and the same in natural numbers.
-/
module

public import proofs.«01_k».proof.Proof.Sums
public import Idealize.ShloMosaic.PureOps.Ideal.Laws

@[expose] public section

noncomputable section

namespace Cert.Proof.Entry

open Idealize.ShloMosaic Sums

/-! ## The operations on words -/

/-- The remainder by 64 with the divisor's sign, as printed. -/
def remW (x : BitVec 32) : BitVec 32 :=
  let d : BitVec 32 := Scalar.select (IntOp.cmpi .eq 64#32 0#32) 1#32 64#32
  let r := IntOp.remsi .host x d
  Scalar.select (IntOp.andi (IntOp.cmpi .ne (IntOp.cmpi .slt r 0#32) (IntOp.cmpi .slt d 0#32)) (IntOp.cmpi .ne r 0#32)) (IntOp.addi r d) r

/-- A group's first column. -/
def firstW (width : BitVec 32) (g : ℕ) : BitVec 32 := IntOp.muli (BitVec.ofNat 32 g) width

/-- The column's offset in its group. -/
def offW (width w : BitVec 32) (g : ℕ) : BitVec 32 := IntOp.subi (IntOp.andi w 65535#32) (remW (firstW width g))

/-- Whether the entry counts: its offset is in the group, and `other` (that it repeats no column). -/
def liveW (width w : BitVec 32) (other : BitVec 1) (g : ℕ) : BitVec 1 :=
  IntOp.andi (IntOp.andi (IntOp.cmpi .sge (offW width w g) 0#32) (IntOp.cmpi .slt (offW width w g) width)) other

/-- The column, zero for an entry that does not count. -/
def colW (width w : BitVec 32) (other : BitVec 1) (g : ℕ) : BitVec 32 :=
  Scalar.select (liveW width w other g) (IntOp.addi (firstW width g) (offW width w g)) 0#32

/-- The weight, zero for an entry that does not count. -/
def wgtW (width w : BitVec 32) (other : BitVec 1) (g : ℕ) : EReal :=
  Scalar.select (liveW width w other g) (Ideal.ofBits .f32 w) (Ideal.ofBits .f32 0#32)

/-! ## In natural numbers -/

theorem ofBool_eq (p : Bool) : BitVec.ofBool p = if p = true then 1#1 else 0#1 := by cases p <;> rfl

theorem toInt_ofNat (n : ℕ) (h : n < 2147483648) : (BitVec.ofNat 32 n).toInt = n := by
  rw [BitVec.toInt_eq_toNat_of_lt] <;> rw [BitVec.toNat_ofNat] <;> omega

/-- The remainder of a small column number. -/
theorem remW_ofNat (n : ℕ) (h : n < 2147483648) : remW (BitVec.ofNat 32 n) = BitVec.ofNat 32 (n % 64) := by
  have hd : (Scalar.select (IntOp.cmpi .eq 64#32 0#32) 1#32 64#32 : BitVec 32) = 64#32 := by decide
  have hr : IntOp.remsi .host (BitVec.ofNat 32 n) 64#32 = BitVec.ofNat 32 (n % 64) := by
    unfold IntOp.remsi
    rw [if_neg (by unfold IntOp.SDivCorner; rintro (h | ⟨-, h⟩) <;> exact absurd h (by decide))]
    apply BitVec.eq_of_toInt_eq
    rw [BitVec.toInt_srem, toInt_ofNat n h, toInt_ofNat (n % 64) (by omega), show (64#32).toInt = 64 from by decide]
    exact (Int.natCast_mod n 64).symm ▸ (Int.ofNat_tmod n 64).symm
  unfold remW
  rw [hd]
  dsimp only
  rw [hr]
  have hs : IntOp.cmpi .slt (BitVec.ofNat 32 (n % 64)) 0#32 = 0#1 := by
    show BitVec.ofBool (BitVec.slt _ _) = 0#1
    rw [BitVec.slt_eq_decide, toInt_ofNat _ (by omega), show (0#32).toInt = 0 from by decide, decide_eq_false (by omega)]; rfl
  show Scalar.select (IntOp.andi (IntOp.cmpi .ne (IntOp.cmpi .slt _ 0#32) _) _) _ _ = _
  rw [hs, show IntOp.cmpi .slt 64#32 0#32 = 0#1 from by decide, show IntOp.cmpi .ne 0#1 0#1 = 0#1 from by decide]
  unfold IntOp.andi Scalar.select
  rw [BitVec.zero_and, if_neg (by decide)]

theorem andi_lo (w : BitVec 32) : IntOp.andi w 65535#32 = BitVec.ofNat 32 (lo w) := by
  apply BitVec.eq_of_toNat_eq
  unfold IntOp.andi lo
  rw [BitVec.toNat_and, BitVec.toNat_ofNat, BitVec.toNat_ofNat, show 65535 % 2 ^ 32 = 2 ^ 16 - 1 from rfl, Nat.and_two_pow_sub_one_eq_mod]
  omega

variable (width : ℕ) (hw : width ≤ 64) (w : BitVec 32) (other : BitVec 1) (g : ℕ) (hg : g * width + width ≤ 262144)
include hw hg

theorem firstW_eq : firstW (BitVec.ofNat 32 width) g = BitVec.ofNat 32 (g * width) := (BitVec.ofNat_mul ..).symm

theorem offW_toInt : (offW (BitVec.ofNat 32 width) w g).toInt = (lo w : ℤ) - (g * width % 64 : ℕ) := by
  have hl : lo w < 65536 := Nat.mod_lt _ (by decide)
  unfold offW
  rw [firstW_eq width hw g hg, remW_ofNat _ (by omega), andi_lo]
  unfold IntOp.subi
  rw [BitVec.toInt_sub, toInt_ofNat _ (by omega), toInt_ofNat _ (by omega), Int.bmod_eq_of_le (by omega) (by omega)]

/-- When an entry counts. -/
def cond (width : ℕ) (w : BitVec 32) (other : BitVec 1) (g : ℕ) : Prop :=
  (g * width % 64 ≤ lo w ∧ lo w < g * width % 64 + width) ∧ other = 1#1

instance (width : ℕ) (w : BitVec 32) (other : BitVec 1) (g : ℕ) : Decidable (cond width w other g) := by unfold cond; infer_instance

theorem liveW_eq : liveW (BitVec.ofNat 32 width) w other g = if cond width w other g then 1#1 else 0#1 := by
  have e1 : IntOp.cmpi .sge (offW (BitVec.ofNat 32 width) w g) 0#32 = if g * width % 64 ≤ lo w then 1#1 else 0#1 := by
    show BitVec.ofBool (BitVec.sle _ _) = _
    rw [BitVec.sle_eq_decide, offW_toInt width hw w g hg, show (0#32).toInt = 0 from by decide, ofBool_eq]
    simp only [decide_eq_true_eq]
    exact if_congr (by omega) rfl rfl
  have e2 : IntOp.cmpi .slt (offW (BitVec.ofNat 32 width) w g) (BitVec.ofNat 32 width) = if lo w < g * width % 64 + width then 1#1 else 0#1 := by
    show BitVec.ofBool (BitVec.slt _ _) = _
    rw [BitVec.slt_eq_decide, offW_toInt width hw w g hg, toInt_ofNat _ (by omega), ofBool_eq]
    simp only [decide_eq_true_eq]
    exact if_congr (by omega) rfl rfl
  unfold liveW cond
  rw [e1, e2]
  rcases (by decide : ∀ o : BitVec 1, o = 0#1 ∨ o = 1#1) other with rfl | rfl <;>
    by_cases h1 : g * width % 64 ≤ lo w <;> by_cases h2 : lo w < g * width % 64 + width <;> simp [h1, h2, IntOp.andi]

/-- The column an entry reads. -/
def colN (width : ℕ) (w : BitVec 32) (other : BitVec 1) (g : ℕ) : ℕ :=
  if cond width w other g then g * width + (lo w - g * width % 64) else 0

theorem colN_lt : colN width w other g < 262144 := by
  unfold colN
  by_cases h : cond width w other g
  · rw [if_pos h]; unfold cond at h; omega
  · rw [if_neg h]; decide

theorem colW_eq : colW (BitVec.ofNat 32 width) w other g = BitVec.ofNat 32 (colN width w other g) := by
  have hl : lo w < 65536 := Nat.mod_lt _ (by decide)
  unfold colW colN
  rw [liveW_eq width hw w other g hg]
  by_cases h : cond width w other g
  · rw [if_pos h, if_pos h]
    unfold cond at h
    show IntOp.addi _ _ = _
    have : offW (BitVec.ofNat 32 width) w g = BitVec.ofNat 32 (lo w - g * width % 64) := by
      apply BitVec.eq_of_toInt_eq
      rw [offW_toInt width hw w g hg, toInt_ofNat _ (by omega)]
      omega
    rw [this, firstW_eq width hw g hg]
    exact (BitVec.ofNat_add ..).symm
  · rw [if_neg h, if_neg h]; rfl

/-- What an entry adds: the weighted `x` at its column. -/
theorem term_eq (X : ℕ → EReal) (s : ℕ) (ws : ℕ → BitVec 32) (hs : ws s = w) (ho : other = 1#1 ↔ (s = 0 ∨ lo (ws 1) ≠ lo (ws 0))) :
    X (colN width w other g) * wgtW (BitVec.ofNat 32 width) w other g = entry X (g * width) (g * width % 64) width ws s := by
  unfold wgtW colN entry
  rw [liveW_eq width hw w other g hg, hs]
  by_cases h : cond width w other g
  · rw [if_pos h, if_pos h, if_pos ⟨h.1, ho.1 h.2⟩]; rfl
  · rw [if_neg h, if_neg h, if_neg (fun h' => h ⟨h'.1, ho.2 h'.2⟩)]
    have : (Scalar.select 0#1 (Ideal.ofBits .f32 w) (Ideal.ofBits .f32 0#32) : EReal) = 0 := by
      exact Ideal.ofBits_zero_f32
    rw [this, mul_zero]

end Cert.Proof.Entry
-- ==== Proof.Table.lean ====
/-
  A packed table read entry by entry, for any number of groups: the words, which entries repeat no column, the rows of
  the positions, and what the flat entry number `i` lists.
-/
module

public import proofs.«01_k».proof.Proof.Result
public import proofs.«01_k».proof.Proof.Entry

@[expose] public section

set_option maxRecDepth 16384

noncomputable section

namespace Cert.Proof.Table

open Idealize.ShloMosaic hiding ix1 ix2 ix3 ix4 ix5
open Cert.Proof.Sums Cert.Proof.Entry Cert.Proof.Result Cert.Proof.Acc
open Idealize.ShloMosaic.ValueIdx (ix1 ix2 ix3 ix4 ix5)

/-- One word for each slot, group and position. -/
abbrev Words (n : ℕ) : Shape := ⟨3, ![2, n, 128]⟩
/-- One slot of them, with its axis. -/
abbrev Slot (n : ℕ) : Shape := ⟨3, ![1, n, 128]⟩
/-- One slot of them. -/
abbrev Plane (n : ℕ) : Shape := ⟨2, ![n, 128]⟩
/-- The entries, flat. -/
abbrev Flat (N : ℕ) : Shape := ⟨1, ![N]⟩

/-- A table's words by slot, group and position. -/
def words (m n : ℕ) (p : IVec ⟨4, ![m, 2, 128, 128]⟩ 32) (ht : Shape.Transposes ⟨4, ![m, 2, 128, 128]⟩ [1, 0, 3, 2] ⟨4, ![2, m, 128, 128]⟩)
    (hc : Shape.ShapeCasts ⟨4, ![2, m, 128, 128]⟩ (Words n)) : IVec (Words n) 32 :=
  shapeCast (s := ⟨4, ![2, m, 128, 128]⟩) (Words n) (transpose ⟨4, ![2, m, 128, 128]⟩ [1, 0, 3, 2] p ht) hc

/-- A word is found at its group's tile, slot, position and lane. -/
theorem words_apply (m n : ℕ) (p : IVec ⟨4, ![m, 2, 128, 128]⟩ 32) (ht) (hc) (hn : n = m * 128) (s : Fin 2) (G : Fin n) (rho : Fin 128)
    (a : Fin m) (ha : a.val = G.val / 128) (l : Fin 128) (hl : l.val = G.val % 128) :
    words m n p ht hc (ix3 s G rho) = p (ix4 a s rho l) := by
  subst hn
  have hG := G.isLt
  refine (shapeCast_apply _ _ _ (ix4 s a l rho) ?_).trans (transpose_apply _ _ _ _ _ ?_)
  · rw [Shape.rowMajor_val_four, Shape.rowMajor_val_three]
    show ((s.val * m + a.val) * 128 + l.val) * 128 + rho.val = (s.val * (m * 128) + G.val) * 128 + rho.val
    have : s.val * (m * 128) = s.val * m * 128 := (Nat.mul_assoc ..).symm
    omega
  · intro b
    match b with
    | ⟨0, _⟩ => rfl
    | ⟨1, _⟩ => rfl
    | ⟨2, _⟩ => rfl
    | ⟨3, _⟩ => rfl

/-- Which entries repeat no column: every first one, and a second one whose low half differs from the first one's. -/
def other (n : ℕ) (w : IVec (Words n) 32) (h1 : (Words n).Slices ![1, 0, 0] (Slot n)) (h0 : (Words n).Slices ![0, 0, 0] (Slot n))
    (hc : (Slot n).ShapeCasts (Plane n)) (hcat : Shape.Concatenates [Slot n, Slot n] (Words n) 0) : IVec (Words n) 1 :=
  concatenate (Words n) 0
    [⟨Slot n, fun _ => 1#1⟩,
     ⟨Slot n, fun j => cmpi .ne
        (shapeCast (s := Slot n) (Plane n) (extractStridedSlice (Slot n) ![1, 0, 0] (fun j => IntOp.andi (w j) 65535#32 : IVec (Words n) 32) h1) hc)
        (shapeCast (s := Slot n) (Plane n) (extractStridedSlice (Slot n) ![0, 0, 0] (fun j => IntOp.andi (w j) 65535#32 : IVec (Words n) 32) h0) hc)
        (ix2 (j 1) (j 2))⟩] hcat

/-- A slot's low half. -/
theorem low_apply (n : ℕ) (w : IVec (Words n) 32) (s : Fin 2) (h : (Words n).Slices ![s.val, 0, 0] (Slot n)) (hc : (Slot n).ShapeCasts (Plane n))
    (G : Fin n) (rho : Fin 128) :
    shapeCast (s := Slot n) (Plane n) (extractStridedSlice (Slot n) ![s.val, 0, 0] (fun j => IntOp.andi (w j) 65535#32 : IVec (Words n) 32) h) hc (ix2 G rho)
      = BitVec.ofNat 32 (lo (w (ix3 s G rho))) := by
  refine (shapeCast_apply _ _ _ (ix3 (0 : Fin 1) G rho) ?_).trans ((extractStridedSlice_apply _ _ _ _ (ix3 s G rho) ?_).trans (andi_lo _))
  · rw [Shape.rowMajor_val_two, Shape.rowMajor_val_three]
    show (0 * n + G.val) * 128 + rho.val = G.val * 128 + rho.val
    omega
  · intro b
    match b with
    | ⟨0, _⟩ => rfl
    | ⟨1, _⟩ => show G.val = 0 + G.val; omega
    | ⟨2, _⟩ => show rho.val = 0 + rho.val; omega

theorem other_apply (n : ℕ) (w : IVec (Words n) 32) (h1) (h0) (hc) (hcat) (s : Fin 2) (G : Fin n) (rho : Fin 128) :
    other n w h1 h0 hc hcat (ix3 s G rho) = 1#1 ↔ (s.val = 0 ∨ lo (w (ix3 1 G rho)) ≠ lo (w (ix3 0 G rho))) := by
  match s with
  | 0 =>
    refine iff_of_true ?_ (.inl rfl)
    refine concatenate_pair_apply_left (t := Words n) (s₁ := Slot n) (s₂ := Slot n) 0 _ _ _ _ rfl (ix3 (0 : Fin 1) G rho) ?_
    intro b; match b with | ⟨0, _⟩ => rfl | ⟨1, _⟩ => rfl | ⟨2, _⟩ => rfl
  | 1 =>
    have e := concatenate_pair_apply_right (t := Words n) (s₁ := Slot n) (s₂ := Slot n) 0 (fun _ => 1#1)
      (fun j => cmpi .ne
        (shapeCast (s := Slot n) (Plane n) (extractStridedSlice (Slot n) ![1, 0, 0] (fun j => IntOp.andi (w j) 65535#32 : IVec (Words n) 32) h1) hc)
        (shapeCast (s := Slot n) (Plane n) (extractStridedSlice (Slot n) ![0, 0, 0] (fun j => IntOp.andi (w j) 65535#32 : IVec (Words n) 32) h0) hc)
        (ix2 (j 1) (j 2))) hcat (ix3 1 G rho) rfl rfl (ix3 (0 : Fin 1) G rho)
      (by intro b hb; match b with | ⟨0, _⟩ => exact absurd rfl hb | ⟨1, _⟩ => rfl | ⟨2, _⟩ => rfl) rfl
    have e' : other n w h1 h0 hc hcat (ix3 1 G rho) = IntOp.cmpi .ne (BitVec.ofNat 32 (lo (w (ix3 1 G rho)))) (BitVec.ofNat 32 (lo (w (ix3 0 G rho)))) :=
      e.trans (congrArg₂ (IntOp.cmpi .ne) (low_apply n w 1 h1 hc G rho) (low_apply n w 0 h0 hc G rho))
    rw [e']
    show BitVec.ofBool (_ != _) = 1#1 ↔ _
    have l1 : lo (w (ix3 1 G rho)) < 65536 := Nat.mod_lt _ (by decide)
    have l0 : lo (w (ix3 0 G rho)) < 65536 := Nat.mod_lt _ (by decide)
    rw [ofBool_eq]
    have hne : ((BitVec.ofNat 32 (lo (w (ix3 1 G rho))) != BitVec.ofNat 32 (lo (w (ix3 0 G rho)))) = true)
        ↔ lo (w (ix3 1 G rho)) ≠ lo (w (ix3 0 G rho)) := by
      rw [bne_iff_ne]
      refine not_congr ⟨fun h => ?_, fun h => by rw [h]⟩
      have := congrArg BitVec.toNat h
      rw [BitVec.toNat_ofNat, BitVec.toNat_ofNat] at this
      omega
    by_cases h : lo (w (ix3 1 G rho)) ≠ lo (w (ix3 0 G rho))
    · rw [if_pos (hne.2 h)]; exact iff_of_true rfl (.inr h)
    · rw [if_neg (fun h' => h (hne.1 h'))]
      exact iff_of_false (by decide) (by rintro (h' | h'); exacts [absurd h' (by decide), h h'])

/-- The rows of the 128 positions: half `k` of each of the permutation's two halves. -/
def rows (k : ℕ) (p : IVec ⟨1, ![256]⟩ 32) (h0 : Shape.ShapeCasts ⟨1, ![256]⟩ ⟨3, ![2, 2, 64]⟩)
    (hs : Shape.Slices ⟨3, ![2, 2, 64]⟩ ![0, k, 0] ⟨3, ![2, 1, 64]⟩) (h1 : Shape.ShapeCasts ⟨3, ![2, 1, 64]⟩ ⟨2, ![2, 64]⟩)
    (h2 : Shape.ShapeCasts ⟨2, ![2, 64]⟩ ⟨1, ![128]⟩) : IVec ⟨1, ![128]⟩ 32 :=
  shapeCast (s := ⟨2, ![2, 64]⟩) ⟨1, ![128]⟩ (shapeCast (s := ⟨3, ![2, 1, 64]⟩) ⟨2, ![2, 64]⟩
    (extractStridedSlice ⟨3, ![2, 1, 64]⟩ ![0, k, 0] (shapeCast (s := ⟨1, ![256]⟩) ⟨3, ![2, 2, 64]⟩ p h0) hs) h1) h2

theorem rows_apply (k : Fin 2) (p : IVec ⟨1, ![256]⟩ 32) (h0) (hs) (h1) (h2) (rho : Fin 128) :
    rows k.val p h0 hs h1 h2 (ix1 rho) = permN p ((rho.val / 64 * 2 + k.val) * 64 + rho.val % 64) := by
  have hr := rho.isLt
  have hk := k.isLt
  refine (shapeCast_apply _ _ _ (ix2 (⟨rho.val / 64, by omega⟩ : Fin 2) (⟨rho.val % 64, by omega⟩ : Fin 64)) ?_).trans
    ((shapeCast_apply _ _ _ (ix3 (⟨rho.val / 64, by omega⟩ : Fin 2) (0 : Fin 1) (⟨rho.val % 64, by omega⟩ : Fin 64)) ?_).trans
      ((extractStridedSlice_apply _ _ _ _ (ix3 (⟨rho.val / 64, by omega⟩ : Fin 2) k (⟨rho.val % 64, by omega⟩ : Fin 64)) ?_).trans
        (shapeCast_apply _ _ _ _ ?_)))
  · rw [Shape.rowMajor_val_two, Shape.rowMajor_val_one]
    show rho.val / 64 * 64 + rho.val % 64 = rho.val
    omega
  · rw [Shape.rowMajor_val_two, Shape.rowMajor_val_three]
    show (rho.val / 64 * 1 + 0) * 64 + rho.val % 64 = rho.val / 64 * 64 + rho.val % 64
    omega
  · intro b
    match b with
    | ⟨0, _⟩ => show rho.val / 64 = 0 + rho.val / 64; omega
    | ⟨1, _⟩ => show k.val = k.val + 0; omega
    | ⟨2, _⟩ => show rho.val % 64 = 0 + rho.val % 64; omega
  · rw [Shape.rowMajor_val_one, Shape.rowMajor_val_three]
    show ((rho.val / 64 * 2 + k.val) * 64 + rho.val % 64) % 256 = (rho.val / 64 * 2 + k.val) * 64 + rho.val % 64
    omega

/-- The entries cut flat: entry `i` is slot, group and position `i` by division. -/
theorem flat_apply {α : Type} (n N : ℕ) (f : (Words n).Idx → α) (h : (Words n).ShapeCasts (Flat N)) (i : Fin N)
    (s : Fin 2) (hs : s.val = i.val / 128 / n) (G : Fin n) (hG : G.val = i.val / 128 % n) (rho : Fin 128) (hr : rho.val = i.val % 128) :
    shapeCast (s := Words n) (Flat N) f h (ix1 i) = f (ix3 s G rho) := by
  refine shapeCast_apply _ _ _ _ ?_
  rw [Shape.rowMajor_val_one, Shape.rowMajor_val_three]
  show (s.val * n + G.val) * 128 + rho.val = i.val
  have e1 : s.val * n + G.val = i.val / 128 := by rw [hs, hG, Nat.mul_comm]; exact Nat.div_add_mod ..
  omega

/-- What entry `i` of a table lists, over all the ways to read it: a row `k` of `x`, a weight, whose product with the
    row's element is the entry's term, and an output row. -/
theorem entry_at (m n width N : ℕ) (hn : n = m * 128) (hN : N = 2 * (n * 128)) (hw : width ≤ 64) (hg : n * width = 262144)
    (p : IVec ⟨4, ![m, 2, 128, 128]⟩ 32) (ht) (hc) (h1) (h0) (hp) (hcat) (hf : (Words n).ShapeCasts (Flat N)) (row : IVec ⟨1, ![128]⟩ 32)
    (word : ℕ → ℕ → ℕ → BitVec 32) (rowN : ℕ → BitVec 32)
    (hword : ∀ (s : Fin 2) (G : Fin n) (rho : Fin 128), words m n p ht hc (ix3 s G rho) = word s.val rho.val G.val)
    (hrow : ∀ rho : Fin 128, row (ix1 rho) = rowN rho.val) (i : Fin N) :
    ∃ k < 262144,
      shapeCast (s := Words n) (Flat N) (fun j => colW (BitVec.ofNat 32 width) (words m n p ht hc j) (other n (words m n p ht hc) h1 h0 hp hcat j) (j 1).val) hf (ix1 i)
          = BitVec.ofNat 32 k
      ∧ (∀ X : ℕ → EReal, X k * shapeCast (s := Words n) (Flat N)
            (fun j => wgtW (BitVec.ofNat 32 width) (words m n p ht hc j) (other n (words m n p ht hc) h1 h0 hp hcat j) (j 1).val) hf (ix1 i)
          = entry X (i.val / 128 % n * width) (i.val / 128 % n * width % 64) width (fun s => word s (i.val % 128) (i.val / 128 % n)) (i.val / 128 / n))
      ∧ shapeCast (s := Words n) (Flat N) (fun j => row (ix1 (j 2))) hf (ix1 i) = rowN (i.val % 128) := by
  have hi := i.isLt
  have hn0 : 0 < n := Nat.pos_of_ne_zero (by rintro rfl; omega)
  have hs : i.val / 128 / n < 2 := by
    refine Nat.div_lt_of_lt_mul ?_
    omega
  have hGl : i.val / 128 % n < n := Nat.mod_lt _ hn0
  have hgb : i.val / 128 % n * width + width ≤ 262144 := by
    rw [← Nat.succ_mul, ← hg]; exact Nat.mul_le_mul_right _ hGl
  set s : Fin 2 := ⟨i.val / 128 / n, hs⟩ with es
  set G : Fin n := ⟨i.val / 128 % n, hGl⟩ with eG
  set rho : Fin 128 := ⟨i.val % 128, Nat.mod_lt _ (by decide)⟩ with er
  refine ⟨colN width (words m n p ht hc (ix3 s G rho)) (other n (words m n p ht hc) h1 h0 hp hcat (ix3 s G rho)) G.val, colN_lt _ hw _ _ _ hgb, ?_, ?_, ?_⟩
  · rw [flat_apply n N _ hf i s rfl G rfl rho rfl]
    exact colW_eq _ hw _ _ _ hgb
  · intro X
    rw [flat_apply n N _ hf i s rfl G rfl rho rfl]
    refine term_eq width hw _ _ G.val hgb X s.val (fun s => word s rho.val G.val) (hword s G rho).symm ?_
    rw [other_apply, hword, hword]
    rfl
  · rw [flat_apply n N _ hf i s rfl G rfl rho rfl]
    exact hrow rho

/-- The terms of a table's entries that go to output row `r`, summed flat, are the table's sum. -/
theorem sum_table (X : ℕ → EReal) (width n : ℕ) (hn : 0 < n) (word : ℕ → ℕ → ℕ → BitVec 32) (row : ℕ → BitVec 32) (r : ℕ) :
    ∑ i ∈ Finset.range (2 * (n * 128)), (if row (i % 128) = BitVec.ofNat 32 r then
        entry X (i / 128 % n * width) (i / 128 % n * width % 64) width (fun s => word s (i % 128) (i / 128 % n)) (i / 128 / n) else 0)
      = tableSum X width n word row r := by
  refine (sum_range_mul _ 2 (n * 128)).trans ?_
  have inner : ∀ s ∈ Finset.range 2, ∑ j ∈ Finset.range (n * 128), (if row ((s * (n * 128) + j) % 128) = BitVec.ofNat 32 r then
        entry X ((s * (n * 128) + j) / 128 % n * width) ((s * (n * 128) + j) / 128 % n * width % 64) width
          (fun s' => word s' ((s * (n * 128) + j) % 128) ((s * (n * 128) + j) / 128 % n)) ((s * (n * 128) + j) / 128 / n) else 0)
      = ∑ G ∈ Finset.range n, ∑ rho ∈ Finset.range 128, (if row rho = BitVec.ofNat 32 r then
        entry X (G * width) (G * width % 64) width (fun s' => word s' rho G) s else 0) := by
    intro s _
    refine (sum_range_mul _ n 128).trans (Finset.sum_congr rfl fun G hG => Finset.sum_congr rfl fun rho hrho => ?_)
    have hG' := Finset.mem_range.1 hG
    have hr' := Finset.mem_range.1 hrho
    have e0 : s * (n * 128) = s * n * 128 := (Nat.mul_assoc ..).symm
    have e1 : (s * (n * 128) + (G * 128 + rho)) % 128 = rho := by omega
    have e2 : (s * (n * 128) + (G * 128 + rho)) / 128 = s * n + G := by omega
    have e3 : (s * n + G) % n = G := by rw [Nat.add_comm, Nat.add_mul_mod_self_right, Nat.mod_eq_of_lt hG']
    have e4 : (s * n + G) / n = s := by rw [Nat.add_comm, Nat.add_mul_div_right _ _ hn, Nat.div_eq_of_lt hG', Nat.zero_add]
    rw [e1, e2, e3, e4]
  rw [Finset.sum_congr rfl inner, Finset.sum_range_succ, Finset.sum_range_succ, Finset.sum_range_zero, zero_add, ← Finset.sum_add_distrib]
  unfold tableSum
  rw [Finset.sum_congr rfl fun G _ => Finset.sum_add_distrib.symm, Finset.sum_comm]
  refine Finset.sum_congr rfl fun rho _ => ?_
  by_cases h : row rho = BitVec.ofNat 32 r
  · rw [if_pos h]
    exact Finset.sum_congr rfl fun G _ => by rw [if_pos h, if_pos h]
  · rw [if_neg h]
    exact Finset.sum_eq_zero fun G _ => by rw [if_neg h, if_neg h, add_zero]

end Cert.Proof.Table
-- ==== Proof.RefEntries.lean ====
/-
  The reference's buffers over the reals: the two tables' columns, weights and output rows, and the result in terms of
  them.
-/
module

public import proofs.«01_k».proof.Proof.Ref
public import proofs.«01_k».proof.Proof.Table

@[expose] public section

set_option maxRecDepth 16384

noncomputable section

namespace Cert.ReferenceIdeal.Run

open Cert.ReferenceIdeal Cert.ReferenceIdeal.Gen
open Idealize.ShloMosaic hiding ix1 ix2 ix3 ix4 ix5
open Idealize.ShloMosaic.TcCoe Idealize.ShloMosaic.StableHlo
open Cert.Proof.Sums Cert.Proof.Entry Cert.Proof.Result Cert.Proof.Acc Cert.Proof.Table
open Idealize.ShloMosaic.ValueIdx (ix1 ix2 ix3 ix4 ix5)

variable (V : Valuation τ sig (Elt Ideal))

/-! ## The dense table -/

/-- The dense table's words. -/
abbrev wordsD : IVec S2x8192x128 32 :=
  words 64 8192 (V (main_arg1 : DevRef τ sig)) transposes_S64x2x128x128_S2x64x128x128_1_0_3_2 shapeCasts_S2x64x128x128_S2x8192x128
/-- Which of its entries repeat no column. -/
abbrev otherD : IVec S2x8192x128 1 :=
  other 8192 (wordsD V) slices_S2x8192x128_S1x8192x128_1_0_0 slices_S2x8192x128_S1x8192x128_0_0_0 shapeCasts_S1x8192x128_S8192x128
    concatenates_S1x8192x128_S1x8192x128_S2x8192x128_d0
/-- Its positions' output rows. -/
abbrev rowsD : IVec S128 32 :=
  rows 0 (V (main_arg3 : DevRef τ sig)) shapeCasts_S256_S2x2x64 slices_S2x2x64_S2x1x64_0_0_0 shapeCasts_S2x1x64_S2x64 shapeCasts_S2x64_S128

/-- Its columns, weights and output rows, flat. -/
abbrev colD : IVec S2097152 32 := shapeCast (s := S2x8192x128) S2097152 (fun j => colW 32#32 (wordsD V j) (otherD V j) (j 1).val) shapeCasts_S2x8192x128_S2097152
abbrev wgtD : FVec Ideal S2097152 .bf16 :=
  shapeCast (s := S2x8192x128) S2097152 (fun j => wgtW 32#32 (wordsD V j) (otherD V j) (j 1).val) shapeCasts_S2x8192x128_S2097152
abbrev segD : IVec S2097152 32 := shapeCast (s := S2x8192x128) S2097152 (fun j => rowsD V (ix1 (j 2))) shapeCasts_S2x8192x128_S2097152

theorem dense_col : after denseOps V (main_v37 : DevRef τ sig) = colD V := by
  after_results_simp
  rfl

theorem dense_wgt : after denseOps V (main_v38 : DevRef τ sig) = wgtD V := by
  after_results_simp
  rfl

theorem dense_row : after denseOps V (main_v39 : DevRef τ sig) = segD V := by
  after_results_simp
  rfl

theorem dense_v0 : after denseOps V (main_v0 : DevRef τ sig)
    = (shapeCast (s := S256) S2x2x64 (V (main_arg3 : DevRef τ sig)) shapeCasts_S256_S2x2x64 : IVec S2x2x64 32) := by
  after_results_simp
  rfl

theorem dense_arg0 : after denseOps V (main_arg0 : DevRef τ sig) = V (main_arg0 : DevRef τ sig) := rfl
theorem dense_arg2 : after denseOps V (main_arg2 : DevRef τ sig) = V (main_arg2 : DevRef τ sig) := rfl

/-! ## The sparse table -/

/-- The sparse table's words. -/
abbrev wordsS (ps : IVec S32x2x128x128 32) : IVec S2x4096x128 32 :=
  words 32 4096 ps transposes_S32x2x128x128_S2x32x128x128_1_0_3_2 shapeCasts_S2x32x128x128_S2x4096x128
/-- Which of its entries repeat no column. -/
abbrev otherS (ps : IVec S32x2x128x128 32) : IVec S2x4096x128 1 :=
  other 4096 (wordsS ps) slices_S2x4096x128_S1x4096x128_1_0_0 slices_S2x4096x128_S1x4096x128_0_0_0 shapeCasts_S1x4096x128_S4096x128
    concatenates_S1x4096x128_S1x4096x128_S2x4096x128_d0
/-- Its positions' output rows, off the permutation `p` cut in halves of halves. -/
abbrev rowsS (p : IVec S2x2x64 32) : IVec S128 32 :=
  shapeCast (s := S2x64) S128 (shapeCast (s := S2x1x64) S2x64 (extractStridedSlice S2x1x64 ![0, 1, 0] p slices_S2x2x64_S2x1x64_0_1_0)
    shapeCasts_S2x1x64_S2x64) shapeCasts_S2x64_S128

/-- Its columns, weights and output rows, flat. -/
abbrev colS (ps : IVec S32x2x128x128 32) : IVec S1048576 32 := shapeCast (s := S2x4096x128) S1048576 (fun j => colW 64#32 (wordsS ps j) (otherS ps j) (j 1).val) shapeCasts_S2x4096x128_S1048576
abbrev wgtS (ps : IVec S32x2x128x128 32) : FVec Ideal S1048576 .bf16 :=
  shapeCast (s := S2x4096x128) S1048576 (fun j => wgtW 64#32 (wordsS ps j) (otherS ps j) (j 1).val) shapeCasts_S2x4096x128_S1048576
abbrev segS (p : IVec S2x2x64 32) : IVec S1048576 32 := shapeCast (s := S2x4096x128) S1048576 (fun j => rowsS p (ix1 (j 2))) shapeCasts_S2x4096x128_S1048576

theorem sparse_col : after sparseOps V (main_v76 : DevRef τ sig) = colS (V (main_arg2 : DevRef τ sig)) := by
  after_results_simp
  rfl

theorem sparse_wgt : after sparseOps V (main_v77 : DevRef τ sig) = wgtS (V (main_arg2 : DevRef τ sig)) := by
  after_results_simp
  rfl

theorem sparse_row : after sparseOps V (main_v78 : DevRef τ sig) = segS (V (main_v0 : DevRef τ sig)) := by
  after_results_simp
  rfl

theorem sparse_arg0 : after sparseOps V (main_arg0 : DevRef τ sig) = V (main_arg0 : DevRef τ sig) := rfl
theorem sparse_v37 : after sparseOps V (main_v37 : DevRef τ sig) = V (main_v37 : DevRef τ sig) := rfl
theorem sparse_v38 : after sparseOps V (main_v38 : DevRef τ sig) = V (main_v38 : DevRef τ sig) := rfl
theorem sparse_v39 : after sparseOps V (main_v39 : DevRef τ sig) = V (main_v39 : DevRef τ sig) := rfl

/-! ## The result -/

/-- Two tables' lists, one after the other. -/
abbrev joined {α : Type} (a : S2097152.Idx → α) (b : S1048576.Idx → α) : S3145728.Idx → α :=
  concatenate S3145728 0 [⟨S2097152, a⟩, ⟨S1048576, b⟩] concatenates_S2097152_S1048576_S3145728_d0

/-- The columns as gather indices, a negative one counted from the end. -/
abbrev gatherIdx (col : IVec S3145728 32) : IVec S3145728x1 32 :=
  broadcastInDim S3145728x1 ![0] bcast_S3145728_S3145728x1_0
    (select (cmpi .slt col (broadcastInDim S3145728 ![] bcast_S_S3145728 (constantI S_ 32 0#32)))
      (addi col (broadcastInDim S3145728 ![] bcast_S_S3145728 (constantI S_ 32 262144#32))) col)

/-- The weighted rows of `x`. -/
abbrev products (x : FVec Ideal S262144x96 .bf16) (col : IVec S3145728 32) (wgt : FVec Ideal S3145728 .bf16) : FVec Ideal S3145728x96 .f32 :=
  mulf (extf .f32 (Host.gather gather_S262144x96_S3145728x1_S3145728x96_1_0_n_n_0_1_196 x (gatherIdx col) : FVec Ideal S3145728x96 .bf16) bitsLt_bf16_f32)
    (broadcastInDim S3145728x96 ![0, 1] bcast_S3145728x1_S3145728x96_0_1
      (broadcastInDim S3145728x1 ![0] bcast_S3145728_S3145728x1_0 (extf .f32 wgt bitsLt_bf16_f32)))

/-- Their sums by output row. -/
abbrev rowSums (x : FVec Ideal S262144x96 .bf16) (col : IVec S3145728 32) (wgt : FVec Ideal S3145728 .bf16) (seg : IVec S3145728 32) : FVec Ideal S256x96 .f32 :=
  Host.scatterAdd scatter_S256x96_S3145728x1_S3145728x96_1_0_0_1
    (broadcastInDim S256x96 ![] bcast_S_S256x96 (constant S_ .f32 0x00000000#32))
    (broadcastInDim S3145728x1 ![0] bcast_S3145728_S3145728x1_0 seg) (products x col wgt)

/-- The sums, rounded and transposed. -/
abbrev sums (x : FVec Ideal S262144x96 .bf16) (col : IVec S3145728 32) (wgt : FVec Ideal S3145728 .bf16) (seg : IVec S3145728 32) : FVec Ideal S96x256 .bf16 :=
  transpose S96x256 [1, 0] (truncf .bf16 (rowSums x col wgt seg) bitsLt_bf16_f32 : FVec Ideal S256x96 .bf16) transposes_S256x96_S96x256_1_0

theorem tail_result : after tailOps V (main_v98 : DevRef τ sig)
    = sums (V (main_arg0 : DevRef τ sig)) (joined (V (main_v37 : DevRef τ sig)) (V (main_v76 : DevRef τ sig)))
        (joined (α := EReal) (V (main_v38 : DevRef τ sig)) (V (main_v77 : DevRef τ sig))) (joined (V (main_v39 : DevRef τ sig)) (V (main_v78 : DevRef τ sig))) := by
  after_results_simp
  rfl

/-- The reference's result from its arguments. -/
theorem ops_result : after ops V (main_v98 : DevRef τ sig)
    = sums (V (main_arg0 : DevRef τ sig)) (joined (colD V) (colS (V (main_arg2 : DevRef τ sig)))) (joined (α := EReal) (wgtD V) (wgtS (V (main_arg2 : DevRef τ sig))))
        (joined (segD V) (segS (shapeCast (s := S256) S2x2x64 (V (main_arg3 : DevRef τ sig)) shapeCasts_S256_S2x2x64))) := by
  rw [after_append, after_append, tail_result, sparse_col, sparse_wgt, sparse_row, sparse_arg0, sparse_v37, sparse_v38, sparse_v39,
    dense_col, dense_wgt, dense_row, dense_v0, dense_arg0, dense_arg2]

end Cert.ReferenceIdeal.Run
-- ==== Proof.Scatter.lean ====
/-
  Rows of updates added into the rows of an array that a list of row numbers names.
-/
module

public import proofs.«01_k».proof.Proof.Result
public import proofs.«01_k».proof.Proof.Entry

@[expose] public section

noncomputable section

namespace Cert.Proof.Scatter

open Idealize.ShloMosaic hiding ix1 ix2 ix3 ix4 ix5
open Cert.Proof.Entry Finset
open Idealize.ShloMosaic.ValueIdx (ix1 ix2 ix3 ix4 ix5)

section
variable {nb B n : ℕ} (d : ScatterDims ⟨2, ![nb, B]⟩ ⟨2, ![n, 1]⟩ ⟨2, ![n, B]⟩) (hu : d.updateWindowDims = [1]) (hi : d.insertedWindowDims = [0])
  (hs : d.scatterDimsToOperandDims = [0]) (hv : d.indexVectorDim = 1)
include hu hi hs hv

/-- A window starts at the row its number names, -/
theorem start_zero (idx : IVec ⟨2, ![n, 1]⟩ 32) (c : Fin n) (y : Fin B) : d.start (ix2 c y) idx 0 = (idx (ix2 c 0)).toInt := by
  have hm : (0 : Fin 2) ∈ d.scatterDimsToOperandDims := by rw [hs]; exact List.mem_singleton.2 rfl
  have hk0 : ∀ k ∈ d.uScatter, k = (0 : Fin 2) := fun k hk => by
    have hk' : k ∉ d.updateWindowDims := of_decide_eq_true (List.mem_filter.1 hk).2
    rw [hu] at hk'
    have h1 : k.val ≠ 1 := fun e => hk' (List.mem_singleton.2 (Fin.ext e))
    have h2 : k.val < 2 := k.isLt
    exact Fin.ext (by show k.val = 0; omega)
  have e0 : ∀ X : Fin 2, X = 0 → (ix2 c y X).val = c.val := fun X h => by subst h; rfl
  unfold ScatterDims.start
  rw [dif_pos hm]
  refine congrArg BitVec.toInt (congrArg idx (funext fun b => Fin.ext ?_))
  match b with
  | ⟨0, _⟩ =>
    unfold ScatterDims.siIdx
    rw [dif_neg (by rw [hv]; exact Nat.zero_ne_one)]
    unfold ScatterDims.siCoord
    simp only [Fin.val_cast]
    exact e0 _ (hk0 _ (List.getElem_mem _))
  | ⟨1, _⟩ =>
    unfold ScatterDims.siIdx
    rw [dif_pos (by rw [hv])]
    show List.idxOf (0 : Fin 2) d.scatterDimsToOperandDims = 0
    rw [hs]; simp

/-- and at column 0; -/
theorem start_one (idx : IVec ⟨2, ![n, 1]⟩ 32) (c : Fin n) (y : Fin B) : d.start (ix2 c y) idx 1 = 0 := by
  unfold ScatterDims.start
  rw [dif_neg (by rw [hs]; exact fun h => absurd (congrArg Fin.val (List.mem_singleton.1 h)) Nat.one_ne_zero)]

/-- it is one row -/
theorem window_zero (c : Fin n) (y : Fin B) : d.window (ix2 c y) 0 = 0 := by
  unfold ScatterDims.window
  rw [dif_neg]
  intro h
  have h' : (0 : Fin 2) ∉ d.insertedWindowDims := of_decide_eq_true (List.mem_filter.1 h).2
  exact h' (by rw [hi]; exact List.mem_singleton.2 rfl)

/-- of all the columns. -/
theorem window_one (c : Fin n) (y : Fin B) : d.window (ix2 c y) 1 = y.val := by
  have hk1 : ∀ k ∈ d.updateWindowDims, k = (1 : Fin 2) := fun k hk => by rw [hu] at hk; exact List.mem_singleton.1 hk
  have e1 : ∀ X : Fin 2, X = 1 → (ix2 c y X).val = y.val := fun X h => by subst h; rfl
  unfold ScatterDims.window
  have hm : (1 : Fin 2) ∈ d.sKept := List.mem_filter.2 ⟨List.mem_finRange _, decide_eq_true (by
    rw [hi]; exact fun h => absurd (congrArg Fin.val (List.mem_singleton.1 h)) Nat.one_ne_zero)⟩
  rw [dif_pos hm]
  exact e1 _ (hk1 _ (List.getElem_mem _))

/-- Update `(c, y)` lands at `(r, b)` when its row number is `r` and `y` is `b`. -/
theorem resultIdx_iff (hnb : nb < 2147483648) (idx : IVec ⟨2, ![n, 1]⟩ 32) (c : Fin n) (y : Fin B) (r : Fin nb) (b : Fin B) :
    d.resultIdx? (ix2 c y) idx = some (ix2 r b) ↔ y = b ∧ idx (ix2 c 0) = BitVec.ofNat 32 r.val := by
  have hr := r.isLt
  have hy := y.isLt
  have s0 := start_zero d hu hi hs hv idx c y
  have s1 := start_one d hu hi hs hv idx c y
  have w0 := window_zero d hu hi hs hv c y
  have w1 := window_one d hu hi hs hv c y
  have key : idx (ix2 c 0) = BitVec.ofNat 32 r.val ↔ (idx (ix2 c 0)).toInt = r.val := by
    constructor
    · intro h; rw [h]; exact toInt_ofNat _ (by omega)
    · intro h; exact BitVec.eq_of_toInt_eq (h.trans (toInt_ofNat _ (by omega)).symm)
  rw [key]
  unfold ScatterDims.resultIdx?
  constructor
  · intro h
    split at h
    · rename_i hb
      have h' := Option.some.inj h
      have a0 : (d.start (ix2 c y) idx 0 + d.window (ix2 c y) 0).toNat = r.val := congrArg Fin.val (congrFun h' 0)
      have a1 : (d.start (ix2 c y) idx 1 + d.window (ix2 c y) 1).toNat = b.val := congrArg Fin.val (congrFun h' 1)
      have b0 := (hb 0).1
      rw [s0, w0] at a0 b0
      rw [s1, w1] at a1
      exact ⟨Fin.ext (by omega), by omega⟩
    · exact absurd h (by simp)
  · rintro ⟨rfl, h⟩
    have hb : ∀ a, 0 ≤ d.start (ix2 c y) idx a + d.window (ix2 c y) a
        ∧ d.start (ix2 c y) idx a + d.window (ix2 c y) a < (⟨2, ![nb, B]⟩ : Shape).size a := by
      intro a
      match a with
      | ⟨0, _⟩ =>
        show 0 ≤ d.start (ix2 c y) idx 0 + d.window (ix2 c y) 0 ∧ d.start (ix2 c y) idx 0 + d.window (ix2 c y) 0 < (nb : ℤ)
        rw [s0, w0]; omega
      | ⟨1, _⟩ =>
        show 0 ≤ d.start (ix2 c y) idx 1 + d.window (ix2 c y) 1 ∧ d.start (ix2 c y) idx 1 + d.window (ix2 c y) 1 < (B : ℤ)
        rw [s1, w1]; omega
    rw [dif_pos hb]
    refine congrArg some (funext fun a => Fin.ext ?_)
    match a with
    | ⟨0, _⟩ =>
      show (d.start (ix2 c y) idx 0 + d.window (ix2 c y) 0).toNat = r.val
      rw [s0, w0]; omega
    | ⟨1, _⟩ =>
      show (d.start (ix2 c y) idx 1 + d.window (ix2 c y) 1).toNat = y.val
      rw [s1, w1]; omega

/-- Row `r` of the result: what was there, and the sum of the updates whose row number is `r`. -/
theorem scatterAdd_apply (hnb : nb < 2147483648) (x : (⟨2, ![nb, B]⟩ : Shape).Idx → EReal) (idx : IVec ⟨2, ![n, 1]⟩ 32)
    (upd : (⟨2, ![n, B]⟩ : Shape).Idx → EReal) (r : Fin nb) (b : Fin B) :
    Ideal.hostScatterAdd d x idx upd (ix2 r b)
      = x (ix2 r b) + ∑ c : Fin n, if idx (ix2 c 0) = BitVec.ofNat 32 r.val then upd (ix2 c b) else 0 := by
  unfold Ideal.hostScatterAdd
  refine congrArg (x (ix2 r b) + ·) ?_
  rw [Finset.sum_filter]
  refine (ValueIdx.sum_idx2 _).trans (Finset.sum_congr rfl fun c _ => ?_)
  refine (Finset.sum_eq_single b ?_ ?_).trans ?_
  · intro y _ hy
    exact if_neg fun h => hy ((resultIdx_iff d hu hi hs hv hnb idx c y r b).1 h).1
  · intro h; exact absurd (Finset.mem_univ _) h
  · exact if_congr ((resultIdx_iff d hu hi hs hv hnb idx c b r b).trans ⟨fun h => h.2, fun h => ⟨rfl, h⟩⟩) rfl rfl

end

end Cert.Proof.Scatter
-- ==== Proof.RefValue.lean ====
/-
  The reference's result over the reals: element `(b, r)` is the weighted sum the two tables list.
-/
module

public import proofs.«01_k».proof.Proof.RefEntries
public import proofs.«01_k».proof.Proof.Scatter
public import Idealize.ShloMosaic.Lib.Routing.Ops

@[expose] public section

set_option maxRecDepth 16384

noncomputable section

namespace Cert.ReferenceIdeal.Run

open Cert.ReferenceIdeal Cert.ReferenceIdeal.Gen
open Idealize.ShloMosaic hiding ix1 ix2 ix3 ix4 ix5
open Idealize.ShloMosaic.TcCoe Idealize.ShloMosaic.StableHlo
open Cert.Proof.Sums Cert.Proof.Entry Cert.Proof.Result Cert.Proof.Acc Cert.Proof.Table Cert.Proof.Scatter
open Idealize.ShloMosaic.ValueIdx (ix1 ix2 ix3 ix4 ix5)

/-! ## The two lists, one after the other -/

/-- The first list's entries come first, -/
theorem joined_left {α : Type} (a : S2097152.Idx → α) (b : S1048576.Idx → α) (i : Fin 3145728) (k : Fin 2097152) (h : k.val = i.val) :
    joined a b (ix1 i) = a (ix1 k) :=
  concatenate_pair_apply_left (t := S3145728) (s₁ := S2097152) (s₂ := S1048576) 0 _ _ _ _ rfl (ix1 k)
    (by intro b; match b with | ⟨0, _⟩ => exact h)

/-- and the second list's after them. -/
theorem joined_right {α : Type} (a : S2097152.Idx → α) (b : S1048576.Idx → α) (i : Fin 3145728) (k : Fin 1048576) (h : k.val + 2097152 = i.val) :
    joined a b (ix1 i) = b (ix1 k) :=
  concatenate_pair_apply_right (t := S3145728) (s₁ := S2097152) (s₂ := S1048576) 0 _ _ _ _ rfl rfl (ix1 k)
    (by intro b hb; match b with | ⟨0, _⟩ => exact absurd rfl hb) h

/-! ## Rows by number -/

/-- A column number is its own gather index. -/
theorem gatherIdx_apply (col : IVec S3145728 32) (i : Fin 3145728) (k : ℕ) (hk : k < 262144) (h : col (ix1 i) = BitVec.ofNat 32 k) :
    gatherIdx col (ix2 i 0) = BitVec.ofNat 32 k := by
  refine (broadcastInDim_apply _ _ _ _ (ix1 i) ?_).trans ?_
  · intro b
    match b with
    | ⟨0, _⟩ => rfl
  · show Scalar.select (IntOp.cmpi .slt (col (ix1 i)) 0#32) (IntOp.addi (col (ix1 i)) 262144#32) (col (ix1 i)) = _
    rw [h]
    have e : IntOp.cmpi .slt (BitVec.ofNat 32 k) 0#32 = 0#1 := by
      show BitVec.ofBool (BitVec.slt _ _) = _
      rw [BitVec.slt_eq_decide, toInt_ofNat _ (by omega), show (0#32).toInt = 0 from by decide, ofBool_eq, if_neg]
      simp only [decide_eq_true_eq]
      omega
    rw [e]; rfl

/-- An entry's product: the row its column names, times its weight. -/
theorem products_apply (x : FVec Ideal S262144x96 .bf16) (col : IVec S3145728 32) (wgt : FVec Ideal S3145728 .bf16) (i : Fin 3145728) (b : Fin 96)
    (k : ℕ) (hk : k < 262144) (h : col (ix1 i) = BitVec.ofNat 32 k) :
    products x col wgt (ix2 i b) = xN x b k * wgt (ix1 i) := by
  have e1 : Host.gather gather_S262144x96_S3145728x1_S3145728x96_1_0_n_n_0_1_196 x (gatherIdx col) (ix2 i b) = xN x b k := by
    refine (Routing.gather_row (nb := 262144) (B := 96) (n := 3145728) gather_S262144x96_S3145728x1_S3145728x96_1_0_n_n_0_1_196 rfl rfl rfl rfl rfl
      x (gatherIdx col) i b ⟨k, hk⟩ (gatherIdx_apply col i k hk h) (by decide)).trans ?_
    unfold xN
    refine congrArg x ?_
    have : (⟨k, hk⟩ : Fin 262144) = Fin.ofNat 262144 k := Fin.ext (Nat.mod_eq_of_lt hk).symm
    rw [this]
  have e2 : broadcastInDim S3145728x96 ![0, 1] bcast_S3145728x1_S3145728x96_0_1
      (broadcastInDim S3145728x1 ![0] bcast_S3145728_S3145728x1_0 wgt) (ix2 i b) = wgt (ix1 i) := by
    refine (broadcastInDim_apply _ _ _ _ (ix2 i (0 : Fin 1)) ?_).trans (broadcastInDim_apply _ _ _ _ (ix1 i) ?_)
    · intro a
      match a with
      | ⟨0, _⟩ => rfl
      | ⟨1, _⟩ => rfl
    · intro a
      match a with
      | ⟨0, _⟩ => rfl
  exact congrArg₂ (fun u v : EReal => u * v) e1 e2

/-- Over the reals the host's scattered addition is the exact sum. -/
theorem scatterAdd_eq {s si su : Shape} (d : ScatterDims s si su) (v : FVec Ideal s .f32) (idx : IVec si 32) (u : FVec Ideal su .f32) :
    Host.scatterAdd d v idx u = Ideal.hostScatterAdd d v idx u := rfl

/-- The sums start at zero. -/
theorem zeros_apply (j : S256x96.Idx) :
    (broadcastInDim S256x96 ![] bcast_S_S256x96 (constant (F := Ideal) S_ .f32 0x00000000#32) j : EReal) = 0 :=
  (broadcastInDim_apply _ _ _ _ (fun a => a.elim0) fun a => a.elim0).trans Ideal.ofBits_zero_f32

/-- An entry's output row as a scatter index. -/
theorem scatterIdx_apply (seg : IVec S3145728 32) (i : Fin 3145728) :
    broadcastInDim S3145728x1 ![0] bcast_S3145728_S3145728x1_0 seg (ix2 i (0 : Fin 1)) = seg (ix1 i) :=
  broadcastInDim_apply _ _ _ _ (ix1 i) (by intro a; match a with | ⟨0, _⟩ => rfl)

/-- A row of the sums: the products of the entries with that output row. -/
theorem rowSums_apply (x : FVec Ideal S262144x96 .bf16) (col : IVec S3145728 32) (wgt : FVec Ideal S3145728 .bf16) (seg : IVec S3145728 32)
    (r : Fin 256) (b : Fin 96) :
    rowSums x col wgt seg (ix2 r b)
      = ∑ i : Fin 3145728, if seg (ix1 i) = BitVec.ofNat 32 r.val then products x col wgt (ix2 i b) else 0 := by
  unfold rowSums
  generalize products x col wgt = u
  rw [scatterAdd_eq]
  refine (scatterAdd_apply (nb := 256) (B := 96) (n := 3145728) scatter_S256x96_S3145728x1_S3145728x96_1_0_0_1 rfl rfl rfl rfl (by decide)
    _ _ u r b).trans ?_
  rw [zeros_apply, zero_add]
  refine Finset.sum_congr rfl fun i _ => ?_
  rw [scatterIdx_apply]

variable (V : Valuation τ sig (Elt Ideal))

/-- The dense table's words by number. -/
theorem wordsD_apply (s : Fin 2) (G : Fin 8192) (rho : Fin 128) :
    wordsD V (ix3 s G rho) = denseWord (V (main_arg1 : DevRef τ sig)) s.val rho.val G.val := by
  have hG := G.isLt
  refine (words_apply 64 8192 _ _ _ rfl s G rho (Fin.ofNat 64 (G.val / 128)) (Nat.mod_eq_of_lt (by omega)) (Fin.ofNat 128 G.val) rfl).trans ?_
  unfold denseWord
  rw [show Fin.ofNat 2 s.val = s from Fin.ext (Nat.mod_eq_of_lt s.isLt), show Fin.ofNat 128 rho.val = rho from Fin.ext (Nat.mod_eq_of_lt rho.isLt)]

/-- The sparse table's words by number. -/
theorem wordsS_apply (ps : IVec S32x2x128x128 32) (s : Fin 2) (G : Fin 4096) (rho : Fin 128) :
    wordsS ps (ix3 s G rho) = sparseWord ps s.val rho.val G.val := by
  have hG := G.isLt
  refine (words_apply 32 4096 _ _ _ rfl s G rho (Fin.ofNat 32 (G.val / 128)) (Nat.mod_eq_of_lt (by omega)) (Fin.ofNat 128 G.val) rfl).trans ?_
  unfold sparseWord
  rw [show Fin.ofNat 2 s.val = s from Fin.ext (Nat.mod_eq_of_lt s.isLt), show Fin.ofNat 128 rho.val = rho from Fin.ext (Nat.mod_eq_of_lt rho.isLt)]

/-- The dense positions' output rows by number. -/
theorem rowsD_apply (rho : Fin 128) : rowsD V (ix1 rho) = denseRow (permN (V (main_arg3 : DevRef τ sig))) rho.val := by
  have hr := rho.isLt
  refine (rows_apply 0 _ _ _ _ _ rho).trans ?_
  unfold denseRow
  refine congrArg (permN _) ?_
  show (rho.val / 64 * 2 + 0) * 64 + rho.val % 64 = _
  split <;> omega

/-- The sparse positions' output rows by number. -/
theorem rowsS_apply (rho : Fin 128) :
    rowsS (shapeCast (s := S256) S2x2x64 (V (main_arg3 : DevRef τ sig)) shapeCasts_S256_S2x2x64) (ix1 rho)
      = sparseRow (permN (V (main_arg3 : DevRef τ sig))) rho.val := by
  have hr := rho.isLt
  refine (rows_apply 1 _ _ _ _ _ rho).trans ?_
  unfold sparseRow
  refine congrArg (permN _) ?_
  show (rho.val / 64 * 2 + 1) * 64 + rho.val % 64 = _
  split <;> omega

/-- Entry `i` of the dense table adds this to column `b`, output row `r`. -/
def denseTerm (X : ℕ → EReal) (r i : ℕ) : EReal :=
  if denseRow (permN (V (main_arg3 : DevRef τ sig))) (i % 128) = BitVec.ofNat 32 r then
    entry X (i / 128 % 8192 * 32) (i / 128 % 8192 * 32 % 64) 32
      (fun s => denseWord (V (main_arg1 : DevRef τ sig)) s (i % 128) (i / 128 % 8192)) (i / 128 / 8192) else 0

/-- Entry `i` of the sparse table adds this. -/
def sparseTerm (X : ℕ → EReal) (r i : ℕ) : EReal :=
  if sparseRow (permN (V (main_arg3 : DevRef τ sig))) (i % 128) = BitVec.ofNat 32 r then
    entry X (i / 128 % 4096 * 64) (i / 128 % 4096 * 64 % 64) 64
      (fun s => sparseWord (V (main_arg2 : DevRef τ sig)) s (i % 128) (i / 128 % 4096)) (i / 128 / 4096) else 0

/-- The reference's result is the sum the two tables list. -/
theorem ops_apply (b : Fin 96) (r : Fin 256) :
    (after ops V (main_v98 : DevRef τ sig) : S96x256.Idx → EReal) (ix2 b r)
      = value (V (main_arg0 : DevRef τ sig)) (V (main_arg1 : DevRef τ sig)) (V (main_arg2 : DevRef τ sig)) (V (main_arg3 : DevRef τ sig)) b r := by
  rw [ops_result]
  refine (transpose_apply _ _ _ _ (ix2 r b) ?_).trans ?_
  · intro a
    match a with
    | ⟨0, _⟩ => rfl
    | ⟨1, _⟩ => rfl
  refine (rowSums_apply _ _ _ _ r b).trans ?_
  refine (sum_fin _ (fun i => if i < 2097152 then denseTerm V (xN (V (main_arg0 : DevRef τ sig)) b) r.val i
    else sparseTerm V (xN (V (main_arg0 : DevRef τ sig)) b) r.val (i - 2097152)) fun i => ?_).trans ?_
  · have hi := i.isLt
    by_cases h : i.val < 2097152
    · rw [if_pos h]
      obtain ⟨k, hk, hcol, hterm, hrow⟩ := entry_at 64 8192 32 2097152 rfl rfl (by decide) rfl (V (main_arg1 : DevRef τ sig))
        transposes_S64x2x128x128_S2x64x128x128_1_0_3_2 shapeCasts_S2x64x128x128_S2x8192x128 slices_S2x8192x128_S1x8192x128_1_0_0
        slices_S2x8192x128_S1x8192x128_0_0_0 shapeCasts_S1x8192x128_S8192x128 concatenates_S1x8192x128_S1x8192x128_S2x8192x128_d0
        shapeCasts_S2x8192x128_S2097152 (rowsD V) (denseWord (V (main_arg1 : DevRef τ sig)))
        (denseRow (permN (V (main_arg3 : DevRef τ sig)))) (wordsD_apply V) (rowsD_apply V) ⟨i.val, h⟩
      rw [products_apply _ _ _ i b k hk ((joined_left _ _ i ⟨i.val, h⟩ rfl).trans hcol)]
      refine if_congr ?_ ?_ rfl
      · exact iff_of_eq (congrArg (· = _) ((joined_left _ _ i ⟨i.val, h⟩ rfl).trans hrow))
      · exact (congrArg (xN _ b k * ·) (joined_left (α := EReal) _ _ i ⟨i.val, h⟩ rfl)).trans (hterm _)
    · rw [if_neg h]
      have h' : i.val - 2097152 + 2097152 = i.val := by omega
      obtain ⟨k, hk, hcol, hterm, hrow⟩ := entry_at 32 4096 64 1048576 rfl rfl (by decide) rfl (V (main_arg2 : DevRef τ sig))
        transposes_S32x2x128x128_S2x32x128x128_1_0_3_2 shapeCasts_S2x32x128x128_S2x4096x128 slices_S2x4096x128_S1x4096x128_1_0_0
        slices_S2x4096x128_S1x4096x128_0_0_0 shapeCasts_S1x4096x128_S4096x128 concatenates_S1x4096x128_S1x4096x128_S2x4096x128_d0
        shapeCasts_S2x4096x128_S1048576 (rowsS (shapeCast (s := S256) S2x2x64 (V (main_arg3 : DevRef τ sig)) shapeCasts_S256_S2x2x64))
        (sparseWord (V (main_arg2 : DevRef τ sig)))
        (sparseRow (permN (V (main_arg3 : DevRef τ sig)))) (wordsS_apply _) (rowsS_apply V) ⟨i.val - 2097152, by omega⟩
      rw [products_apply _ _ _ i b k hk ((joined_right _ _ i ⟨i.val - 2097152, by omega⟩ h').trans hcol)]
      refine if_congr ?_ ?_ rfl
      · exact iff_of_eq (congrArg (· = _) ((joined_right _ _ i ⟨i.val - 2097152, by omega⟩ h').trans hrow))
      · exact (congrArg (xN _ b k * ·) (joined_right (α := EReal) _ _ i ⟨i.val - 2097152, by omega⟩ h')).trans (hterm _)
  · refine (Finset.sum_range_add _ 2097152 1048576).trans ?_
    unfold value
    refine congrArg₂ (· + ·) ?_ ?_
    · refine (Finset.sum_congr rfl fun i hi => if_pos (Finset.mem_range.1 hi)).trans ?_
      exact sum_table (xN (V (main_arg0 : DevRef τ sig)) b) 32 8192 (by decide) _ _ r.val
    · refine (Finset.sum_congr rfl fun i _ => ?_).trans
        (sum_table (xN (V (main_arg0 : DevRef τ sig)) b) 64 4096 (by decide) (sparseWord (V (main_arg2 : DevRef τ sig)))
          (sparseRow (permN (V (main_arg3 : DevRef τ sig)))) r.val)
      rw [if_neg (by omega), Nat.add_sub_cancel_left]
      rfl

end Cert.ReferenceIdeal.Run
-- ==== Proof.Algebraic.lean ====
/-
  The value: kernel and reference compute the same array over the reals.
-/
module

public import proofs.«01_k».proof.Proof.Frames
public import proofs.«01_k».proof.Proof.Result
public import proofs.«01_k».proof.Proof.RefValue

@[expose] public section

noncomputable section

namespace Cert.Proof

open Idealize.ShloMosaic hiding ix1 ix2 ix3 ix4 ix5
open Idealize.ShloMosaic.TcCoe Idealize.SL.Sem
open Idealize.ShloMosaic.ValueIdx (ix2)

/-- From launch memories that agree on the arguments, the reference's result is the kernel's. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (StableHlo.after Cert.ReferenceIdeal.Run.ops (StableHlo.launchContents m' c) (Cert.ReferenceIdeal.main_v98 : DevRef Cert.ReferenceIdeal.τ Cert.ReferenceIdeal.sig)
      : (⟨2, ![96, 256]⟩ : Shape).Idx → EReal) = Cert.KernelIdeal.Run.result m c := by
  funext j
  rw [ValueIdx.eq_ix2 j]
  refine (Cert.ReferenceIdeal.Run.ops_apply (StableHlo.launchContents m' c) (j 0) (j 1)).trans (Eq.trans ?_ (Cert.KernelIdeal.Run.result_apply m c (j 0) (j 1)).symm)
  rw [show StableHlo.launchContents m' c (Cert.ReferenceIdeal.main_arg0 : DevRef Cert.ReferenceIdeal.τ Cert.ReferenceIdeal.sig) = _ from h0,
    show StableHlo.launchContents m' c (Cert.ReferenceIdeal.main_arg1 : DevRef Cert.ReferenceIdeal.τ Cert.ReferenceIdeal.sig) = _ from h1,
    show StableHlo.launchContents m' c (Cert.ReferenceIdeal.main_arg2 : DevRef Cert.ReferenceIdeal.τ Cert.ReferenceIdeal.sig) = _ from h2,
    show StableHlo.launchContents m' c (Cert.ReferenceIdeal.main_arg3 : DevRef Cert.ReferenceIdeal.τ Cert.ReferenceIdeal.sig) = _ from h3]

/-- Kernel and reference end with the same result. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Run.result m c, ?_, ?_⟩
  · exact (θ_run _ _ _).mono (fun r h => fun c => by
      open Cert.KernelIdeal Cert.KernelIdeal.Gen Cert.KernelIdeal.Run in
      have h := h.1
      exact ⟨((h c).1 4).trans (final_4 m c),
        ((h c).2 main_arg0 (Pipeline.mem_restRefs_of main_arg0 (by decide) (by decide))).trans (V_main_arg0 m c),
        ((h c).1 0).trans (((dats m 0 c).arrAt_in 0 rfl _).trans (V_main_arg1 m c)),
        ((h c).1 1).trans (((dats m 0 c).arrAt_in 1 rfl _).trans (V_main_arg2 m c)),
        ((h c).2 main_arg3 (Pipeline.mem_restRefs_of main_arg3 (by decide) (by decide))).trans (V_main_arg3 m c)⟩)
      (Cert.KernelIdeal.Run.run m g)
  · exact (θ_run _ _ _).mono (fun r h => fun c =>
      ⟨(h c _).trans (reference_eq m m' c (hm c).1 (hm c).2.1 (hm c).2.2.1 (hm c).2.2.2),
        (h c _).trans (Cert.ReferenceIdeal.Run.ops_arg0 _), (h c _).trans (Cert.ReferenceIdeal.Run.ops_arg1 _),
        (h c _).trans (Cert.ReferenceIdeal.Run.ops_arg2 _), (h c _).trans (Cert.ReferenceIdeal.Run.ops_arg3 _)⟩)
      (Cert.ReferenceIdeal.Run.run_main m' g')

end Cert.Proof
-- ==== Proof.CodeWords.lean ====
/-
  The call that reads four int8 codes as one word: its frames, the array it returns, and that the four bytes, shifted to
  their places and joined, are that array.
-/
module

public import proofs.«01_k».proof.Defs
public import proofs.«01_k».proof.Proof.Gen.CodeWords.Frame
public import proofs.«01_k».proof.Proof.Gen.CodeWordsIdeal.Value
public import proofs.«01_k».proof.Proof.Gen.CodeWordsReferenceIdeal.Run
public import Idealize.ShloMosaic.Lib.BitcastFour
public import Idealize.ShloMosaic.Lib.ValueIdxCore
public import Idealize.ShloMosaic.Lib.Pointwise.Elementwise
public import Idealize.ShloMosaic.Lib.Quiescent

@[expose] public section

noncomputable section

namespace Cert.CodeWordsIdeal.Value

open Idealize.ShloMosaic Idealize.ShloMosaic.TcCoe Idealize.SL.Sem
open Idealize.ShloMosaic.Pipeline (Dat)
open Cert.CodeWordsIdeal Cert.CodeWordsIdeal.Gen

variable {F : FTy → Type} [FloatOps F]
variable (m : (ℓ : Loc nD τ sig) → Buf (Elt F) ℓ) (ρ : Dev nD → PrngReg)

/-! ## What the call returns -/

/-- The words of the codes: the codes in rows of 128, each four rows read as one row of words. -/
def words (x : IVec S524288 8) : IVec S1024x128 32 :=
  bitcast S1024x128 32 (shapeCast S4096x128 x shapeCasts_S524288_S4096x128) bitcasts_S4096x128_w8_S1024x128_w32

/-- The one grid point. -/
def point : Fin cfg0.N := ⟨0, by decide⟩

/-- The host's reshape of the codes. -/
theorem V_main_v0 (c : Dev nD) : V m c main_v0 = (shapeCast (s := S524288) S4096x128 (m ((c : Thread nD τ).loc main_arg0)) shapeCasts_S524288_S4096x128 : (⟨S4096x128, .i8⟩ : BufTy).Contents (Elt F)) := by
  unfold V hostOps0
  rfl

/-- The body's one store leaves the words of the block it loads. -/
theorem out_eq (x0 : Vec F S4096x128 .i8) : out0_1 (F := F) x0 = k0_pay1 x0 := by
  have h1 : (![0, 0] : Fin S1024x128.rank → Nat) = fun _ => 0 := funext fun a => by fin_cases a <;> rfl
  have h0 : (![0, 0] : Fin S4096x128.rank → Nat) = fun _ => 0 := funext fun a => by fin_cases a <;> rfl
  unfold out0_1
  rw [View.canon_unit_zero h1, View.ld_unit_zero h0]

/-- The words of a block, of the host's reshape, are the words of the codes. -/
theorem pay_eq (x : IVec S524288 8) : k0_pay1 (F := F) (shapeCast S4096x128 x shapeCasts_S524288_S4096x128) = words x := by
  unfold k0_pay1 words
  rw [shapeCast_self]

/-- The array after the run holds the words of the codes. -/
theorem final (c : Dev nD) : (dats (F := F) m 0 c).arrAt (1 : Fin 2) cfg0.N = words (m ((c : Thread nD τ).loc main_arg0)) := by
  have ho := blocks1 (F := F) m c point (by decide)
  have hz1 : (fun a => (win0_1.index point) a * main_v1.ty.shape.size a) = fun _ => 0 := funext fun a => by fin_cases a <;> decide
  have hr1 := fun f => Memref.read_access_unit_zero (Elt F) main_v1 hz1 (fun a => by fin_cases a <;> decide) f
  have hz0 : (fun a => (win0_0.index point) a * main_v0.ty.shape.size a) = fun _ => 0 := funext fun a => by fin_cases a <;> decide
  have hr0 := fun f => Memref.read_access_unit_zero (Elt F) main_v0 hz0 (fun a => by fin_cases a <;> decide) f
  rw [hr1] at ho
  rw [ho, flushed1, out_eq]
  unfold iblk
  rw [hr0]
  exact (congrArg k0_pay1 (V_main_v0 m c)).trans (pay_eq _)

end Cert.CodeWordsIdeal.Value

namespace Cert.CodeWordsReferenceIdeal.RefValue

open Idealize.ShloMosaic Idealize.ShloMosaic.TcCoe
open Cert.CodeWordsReferenceIdeal Cert.CodeWordsReferenceIdeal.Gen
open Idealize.ShloMosaic.ValueIdx (ix1 ix2 ix3 ix4 ix5)

/-! ## What the reference returns -/

/-- The codes in groups of four rows, widened and masked to their low eight bits. -/
abbrev masked (x : IVec S524288 8) : IVec S1024x4x128 32 :=
  andi (extsi 32 (shapeCast S1024x4x128 x shapeCasts_S524288_S1024x4x128) natLt_8_32) (broadcastInDim S1024x4x128 ![] bcast_S_S1024x4x128 (constantI S_ 32 255#32))

/-- A constant at every word. -/
abbrev splat (w : BitVec 32) : IVec S1024x128 32 := broadcastInDim S1024x128 ![] bcast_S_S1024x128 (constantI S_ 32 w)

/-- Code `k` of the four of word `a`, lane `l`. -/
def code (x : IVec S524288 8) (a : Fin 1024) (l : Fin 128) (k : Fin 4) : BitVec 8 :=
  x (ix1 (⟨(a.val * 4 + k.val) * 128 + l.val, by have := a.isLt; have := k.isLt; have := l.isLt; omega⟩ : Fin 524288))

/-- Row `k` of every four rows holds code `k`, widened with zeros. -/
theorem byte_apply (x : IVec S524288 8) (k : ℕ) (hk : k < 4) (h : S1024x4x128.Slices ![0, k, 0] S1024x1x128) (a : Fin 1024) (l : Fin 128) :
    shapeCast S1024x128 (extractStridedSlice S1024x1x128 ![0, k, 0] (masked x) h) shapeCasts_S1024x1x128_S1024x128 (ix2 a l)
      = (code x a l ⟨k, hk⟩).setWidth 32 := by
  rw [shapeCast_apply _ _ (ix2 a l) (ix3 a (0 : Fin 1) l) (by
    rw [Shape.rowMajor_val_three, Shape.rowMajor_val_two]
    show (a.val * 1 + 0) * 128 + l.val = a.val * 128 + l.val
    omega)]
  rw [extractStridedSlice_apply ![0, k, 0] _ h (ix3 a (0 : Fin 1) l) (ix3 a (⟨k, hk⟩ : Fin 4) l) (by
    intro d
    match d with
    | ⟨0, _⟩ => show a.val = 0 + a.val; omega
    | ⟨1, _⟩ => show k = k + 0; omega
    | ⟨2, _⟩ => show l.val = 0 + l.val; omega)]
  have e : shapeCast S1024x4x128 x shapeCasts_S524288_S1024x4x128 (ix3 a (⟨k, hk⟩ : Fin 4) l) = code x a l ⟨k, hk⟩ :=
    shapeCast_apply _ _ _ _ (by
      rw [Shape.rowMajor_val_one, Shape.rowMajor_val_three]
      rfl)
  rw [← e, ← andi_signExtend_255]
  rfl

/-- A word of the codes has bit `q % 8` of code `q / 8` at bit `q`. -/
theorem word_bit (x : IVec S524288 8) (a : Fin 1024) (l : Fin 128) (q : ℕ) (hq : q < 32) :
    (Cert.CodeWordsIdeal.Value.words x (ix2 a l)).getLsbD q = (code x a l ⟨q / 8, by omega⟩).getLsbD (q % 8) := by
  have ha := a.isLt
  refine (bitcast_8_32_getLsbD_ix2 _ _ a l q hq (⟨4 * a.val + q / 8, by omega⟩ : Fin 4096) rfl).trans ?_
  refine congrArg (fun b : BitVec 8 => b.getLsbD (q % 8)) (shapeCast_apply _ _ _ _ ?_)
  rw [Shape.rowMajor_val_one, Shape.rowMajor_val_two]
  show (a.val * 4 + q / 8) * 128 + l.val = (4 * a.val + q / 8) * 128 + l.val
  omega

/-- The four codes shifted to their places and joined are the word. -/
theorem joined_eq (x : IVec S524288 8) :
    ori (ori (ori
        (shapeCast S1024x128 (extractStridedSlice S1024x1x128 ![0, 0, 0] (masked x) slices_S1024x4x128_S1024x1x128_0_0_0) shapeCasts_S1024x1x128_S1024x128)
        (Host.shli (shapeCast S1024x128 (extractStridedSlice S1024x1x128 ![0, 1, 0] (masked x) slices_S1024x4x128_S1024x1x128_0_1_0) shapeCasts_S1024x1x128_S1024x128) (splat 8#32)))
        (Host.shli (shapeCast S1024x128 (extractStridedSlice S1024x1x128 ![0, 2, 0] (masked x) slices_S1024x4x128_S1024x1x128_0_2_0) shapeCasts_S1024x1x128_S1024x128) (splat 16#32)))
        (Host.shli (shapeCast S1024x128 (extractStridedSlice S1024x1x128 ![0, 3, 0] (masked x) slices_S1024x4x128_S1024x1x128_0_3_0) shapeCasts_S1024x1x128_S1024x128) (splat 24#32))
      = Cert.CodeWordsIdeal.Value.words x := by
  funext j
  obtain ⟨a, l, rfl⟩ : ∃ (a : Fin 1024) (l : Fin 128), j = ix2 a l := ⟨j 0, j 1, ValueIdx.eq_ix2 j⟩
  apply BitVec.eq_of_getLsbD_eq
  intro q hq
  rw [word_bit x a l q hq, ← four_bytes_getLsbD (code x a l) q hq]
  congr 1
  simp only [ori, Host.shli, splat, broadcastInDim, constantI]
  rw [byte_apply x 0 (by decide) slices_S1024x4x128_S1024x1x128_0_0_0 a l, byte_apply x 1 (by decide) slices_S1024x4x128_S1024x1x128_0_1_0 a l,
    byte_apply x 2 (by decide) slices_S1024x4x128_S1024x1x128_0_2_0 a l, byte_apply x 3 (by decide) slices_S1024x4x128_S1024x1x128_0_3_0 a l]
  simp [IntOp.ori, IntOp.shli]

end Cert.CodeWordsReferenceIdeal.RefValue

/-! ## The claims -/

namespace Cert.Proof

open Idealize.ShloMosaic Idealize.ShloMosaic.TcCoe Idealize.SL.Sem

/-- The call's frame at the machine's floats. -/
theorem quiescent_CodeWords : Cert.quiescent_CodeWords (hCodeWords := Cert.CodeWords.Gen.facts) :=
  fun m ρ _ => Cert.CodeWords.Gen.frame m ρ

/-- The idealized call's frame. -/
theorem quiescent_CodeWordsIdeal : Cert.quiescent_CodeWordsIdeal (hCodeWordsIdeal := Cert.CodeWordsIdeal.Gen.facts) :=
  fun m ρ _ => Cert.CodeWordsIdeal.Gen.frame m ρ

/-- The frame of the call's reference. -/
theorem quiescent_CodeWordsReferenceIdeal : Cert.quiescent_CodeWordsReferenceIdeal (hCodeWordsReferenceIdeal := Cert.CodeWordsReferenceIdeal.Gen.facts) :=
  fun m ρ _ => (θ_run _ _ _).mono (fun r h => ⟨fun c => (h c).2, Idealize.ShloMosaic.sem_eq_zero_of_no_sems (by decide) r.2⟩)
    (Cert.CodeWordsReferenceIdeal.Value.run m ρ)

/-- The call and its reference end with the same words. -/
theorem algebraic_CodeWords : Cert.algebraic_CodeWordsIdeal_CodeWordsReferenceIdeal (hCodeWordsIdeal := Cert.CodeWordsIdeal.Gen.facts)
    (hCodeWordsReferenceIdeal := Cert.CodeWordsReferenceIdeal.Gen.facts) := by
  intro m g m' g' _ hm
  refine ⟨fun c => Cert.CodeWordsIdeal.Value.words (m ((c.tc : Thread Cert.CodeWordsIdeal.nD Cert.CodeWordsIdeal.τ).loc Cert.CodeWordsIdeal.main_arg0)), ?_, ?_⟩
  · exact (θ_run _ _ _).mono (fun r h => fun c => ⟨((h c).1).trans (Cert.CodeWordsIdeal.Value.final m c), (h c).2⟩)
      (Cert.CodeWordsIdeal.Value.run_blocks m g)
  · refine (θ_run _ _ _).mono (fun r h => fun c => ⟨(h c).1.trans ?_, (h c).2⟩) (Cert.CodeWordsReferenceIdeal.Value.run m' g')
    rw [hm c]
    exact Cert.CodeWordsReferenceIdeal.RefValue.joined_eq _

end Cert.Proof
-- ==== Proof.lean ====
/-
  The certificate: every claim of `Cert.Claim`, from the modules under Proof/.
-/
module

public import proofs.«01_k».proof.Proof.Algebraic
public import proofs.«01_k».proof.Proof.CodeWords

@[expose] public section

noncomputable section

namespace Cert.Proof

open Idealize.ShloMosaic Idealize.SL.Sem

/-- All claims, of the product and of the words of the codes: the three frames of each, the idealization, and the value. -/
theorem claim : Cert.Claim := ⟨Cert.Kernel.Gen.facts, Cert.KernelIdeal.Gen.facts, Cert.ReferenceIdeal.Gen.facts,
  Cert.CodeWords.Gen.facts, Cert.CodeWordsIdeal.Gen.facts, Cert.CodeWordsReferenceIdeal.Gen.facts,
  quiescent_Kernel, quiescent_KernelIdeal, quiescent_ReferenceIdeal, quiescent_CodeWords, quiescent_CodeWordsIdeal,
  quiescent_CodeWordsReferenceIdeal, trivial, algebraic, trivial, algebraic_CodeWords⟩

end Cert.Proof

end
